-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v47_0)) (v1 : (c : Dev Cert.Kernel3Ideal.nD) → Buf (Elt Ideal) ((c.tc : Thread Cert.Kernel3Ideal.nD Cert.Kernel3Ideal.τ).loc Cert.Kernel3Ideal.main_v47_1)) (v2 : (c : Dev Cert.Kernel3Ideal.nD) → Buf (Elt Ideal) ((c.tc : Thread Cert.Kernel3Ideal.nD Cert.Kernel3Ideal.τ).loc Cert.Kernel3Ideal.main_v47_2)) (v3 : (c : Dev Cert.Kernel3Ideal.nD) → Buf (Elt Ideal) ((c.tc : Thread Cert.Kernel3Ideal.nD Cert.Kernel3Ideal.τ).loc Cert.Kernel3Ideal.main_v47_3)) (v4 : (c : Dev Cert.Kernel3Ideal.nD) → Buf (Elt Ideal) ((c.tc : Thread Cert.Kernel3Ideal.nD Cert.Kernel3Ideal.τ).loc Cert.Kernel3Ideal.main_v47_4)) (v5 : (c : Dev Cert.Kernel3Ideal.nD) → Buf (Elt Ideal) ((c.tc : Thread Cert.Kernel3Ideal.nD Cert.Kernel3Ideal.τ).loc Cert.Kernel3Ideal.main_v47_5)) (v6 : (c : Dev Cert.Kernel3Ideal.nD) → Buf (Elt Ideal) ((c.tc : Thread Cert.Kernel3Ideal.nD Cert.Kernel3Ideal.τ).loc Cert.Kernel3Ideal.main_v47_6)) (v7 : (c : Dev Cert.Kernel3Ideal.nD) → Buf (Elt Ideal) ((c.tc : Thread Cert.Kernel3Ideal.nD Cert.Kernel3Ideal.τ).loc Cert.Kernel3Ideal.main_v47_7)) (v8 : (c : Dev Cert.Kernel3Ideal.nD) → Buf (Elt Ideal) ((c.tc : Thread Cert.Kernel3Ideal.nD Cert.Kernel3Ideal.τ).loc Cert.Kernel3Ideal.main_v47_8)) (v9 : (c : Dev Cert.Kernel3Ideal.nD) → Buf (Elt Ideal) ((c.tc : Thread Cert.Kernel3Ideal.nD Cert.Kernel3Ideal.τ).loc Cert.Kernel3Ideal.main_v47_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47_0) = v0 c
          ∧ r.2.mem ((c.tc : Thread Cert.Kernel3Ideal.nD Cert.Kernel3Ideal.τ).loc Cert.Kernel3Ideal.main_v47_1) = v1 c
          ∧ r.2.mem ((c.tc : Thread Cert.Kernel3Ideal.nD Cert.Kernel3Ideal.τ).loc Cert.Kernel3Ideal.main_v47_2) = v2 c
          ∧ r.2.mem ((c.tc : Thread Cert.Kernel3Ideal.nD Cert.Kernel3Ideal.τ).loc Cert.Kernel3Ideal.main_v47_3) = v3 c
          ∧ r.2.mem ((c.tc : Thread Cert.Kernel3Ideal.nD Cert.Kernel3Ideal.τ).loc Cert.Kernel3Ideal.main_v47_4) = v4 c
          ∧ r.2.mem ((c.tc : Thread Cert.Kernel3Ideal.nD Cert.Kernel3Ideal.τ).loc Cert.Kernel3Ideal.main_v47_5) = v5 c
          ∧ r.2.mem ((c.tc : Thread Cert.Kernel3Ideal.nD Cert.Kernel3Ideal.τ).loc Cert.Kernel3Ideal.main_v47_6) = v6 c
          ∧ r.2.mem ((c.tc : Thread Cert.Kernel3Ideal.nD Cert.Kernel3Ideal.τ).loc Cert.Kernel3Ideal.main_v47_7) = v7 c
          ∧ r.2.mem ((c.tc : Thread Cert.Kernel3Ideal.nD Cert.Kernel3Ideal.τ).loc Cert.Kernel3Ideal.main_v47_8) = v8 c
          ∧ r.2.mem ((c.tc : Thread Cert.Kernel3Ideal.nD Cert.Kernel3Ideal.τ).loc Cert.Kernel3Ideal.main_v47_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v140) = v0 c
          ∧ r.2.mem ((c.tc : Thread Cert.Reference3Ideal.nD Cert.Reference3Ideal.τ).loc Cert.Reference3Ideal.main_v142) = v1 c
          ∧ r.2.mem ((c.tc : Thread Cert.Reference3Ideal.nD Cert.Reference3Ideal.τ).loc Cert.Reference3Ideal.main_v143) = v2 c
          ∧ r.2.mem ((c.tc : Thread Cert.Reference3Ideal.nD Cert.Reference3Ideal.τ).loc Cert.Reference3Ideal.main_v145) = v3 c
          ∧ r.2.mem ((c.tc : Thread Cert.Reference3Ideal.nD Cert.Reference3Ideal.τ).loc Cert.Reference3Ideal.main_v146) = v4 c
          ∧ r.2.mem ((c.tc : Thread Cert.Reference3Ideal.nD Cert.Reference3Ideal.τ).loc Cert.Reference3Ideal.main_v149) = v5 c
          ∧ r.2.mem ((c.tc : Thread Cert.Reference3Ideal.nD Cert.Reference3Ideal.τ).loc Cert.Reference3Ideal.main_v150) = v6 c
          ∧ r.2.mem ((c.tc : Thread Cert.Reference3Ideal.nD Cert.Reference3Ideal.τ).loc Cert.Reference3Ideal.main_v154) = v7 c
          ∧ r.2.mem ((c.tc : Thread Cert.Reference3Ideal.nD Cert.Reference3Ideal.τ).loc Cert.Reference3Ideal.main_v157) = v8 c
          ∧ r.2.mem ((c.tc : Thread Cert.Reference3Ideal.nD Cert.Reference3Ideal.τ).loc Cert.Reference3Ideal.main_v161) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16384x512 : Shape := ⟨2, ![16384, 512]⟩
abbrev S8x64 : Shape := ⟨2, ![8, 64]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x8 : Shape := ⟨2, ![1, 8]⟩
abbrev S128x8 : Shape := ⟨2, ![128, 8]⟩
abbrev S512 : Shape := ⟨1, ![512]⟩
abbrev S4x1x128 : Shape := ⟨3, ![4, 1, 128]⟩
abbrev S128x8x64 : Shape := ⟨3, ![128, 8, 64]⟩
abbrev S128x512 : Shape := ⟨2, ![128, 512]⟩
abbrev S128x4x128 : Shape := ⟨3, ![128, 4, 128]⟩
abbrev S4x128x128 : Shape := ⟨3, ![4, 128, 128]⟩
abbrev S2048x128 : Shape := ⟨2, ![2048, 128]⟩
abbrev S2x128x128 : Shape := ⟨3, ![2, 128, 128]⟩
abbrev S1x1x128 : Shape := ⟨3, ![1, 1, 128]⟩
abbrev S128x256 : Shape := ⟨2, ![128, 256]⟩
abbrev S256x128 : Shape := ⟨2, ![256, 128]⟩

abbrev nBuf : Space → Nat
  | .hbm => 74
  | .vmem => 22
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S8x64, .f32⟩
  | .hbm, ⟨5, _⟩ => ⟨S8x64, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S128, .f32⟩
  | .hbm, ⟨16, _⟩ => ⟨S128x1, .f32⟩
  | .hbm, ⟨17, _⟩ => ⟨S1x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S128x128, .i1⟩
  | .hbm, ⟨24, _⟩ => ⟨S8x1x1, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S1x128x128, .f32⟩
  | .hbm, ⟨29, _⟩ => ⟨S8x128x128, .f32⟩
  | .hbm, ⟨30, _⟩ => ⟨S8x128x128, .f32⟩
  | .hbm, ⟨31, _⟩ => ⟨S8x128x128, .f32⟩
  | .hbm, ⟨32, _⟩ => ⟨S8x128x128, .f32⟩
  | .hbm, ⟨33, _⟩ => ⟨S_, .f32⟩
  | .hbm, ⟨34, _⟩ => ⟨S_, .f32⟩
  | .hbm, ⟨35, _⟩ => ⟨S8x128x128, .i1⟩
  | .hbm, ⟨36, _⟩ => ⟨S8x128x128, .f32⟩
  | .hbm, ⟨37, _⟩ => ⟨S8x128x128, .f32⟩
  | .hbm, ⟨38, _⟩ => ⟨S1x8, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128x1, .f32⟩
  | .hbm, ⟨43, _⟩ => ⟨S128x8, .f32⟩
  | .hbm, ⟨44, _⟩ => ⟨S128x8, .f32⟩
  | .hbm, ⟨45, _⟩ => ⟨S128x8, .f32⟩
  | .hbm, ⟨46, _⟩ => ⟨S128x8, .f32⟩
  | .hbm, ⟨47, _⟩ => ⟨S1x8, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S128x1, .f32⟩
  | .hbm, ⟨52, _⟩ => ⟨S128x8, .f32⟩
  | .hbm, ⟨53, _⟩ => ⟨S128x8, .f32⟩
  | .hbm, ⟨54, _⟩ => ⟨S128x8, .f32⟩
  | .hbm, ⟨55, _⟩ => ⟨S128x8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S8, .f32⟩
  | .hbm, ⟨60, _⟩ => ⟨S8x64, .f32⟩
  | .hbm, ⟨61, _⟩ => ⟨S512, .f32⟩
  | .hbm, ⟨62, _⟩ => ⟨S4x1x128, .f32⟩
  | .hbm, ⟨63, _⟩ => ⟨S128x8x64, .f32⟩
  | .hbm, ⟨64, _⟩ => ⟨S128x512, .f32⟩
  | .hbm, ⟨65, _⟩ => ⟨S128x4x128, .f32⟩
  | .hbm, ⟨66, _⟩ => ⟨S4x128x128, .f32⟩
  | .hbm, ⟨67, _⟩ => ⟨S128x8x64, .f32⟩
  | .hbm, ⟨68, _⟩ => ⟨S128x512, .f32⟩
  | .hbm, ⟨69, _⟩ => ⟨S128x4x128, .f32⟩
  | .hbm, ⟨70, _⟩ => ⟨S4x128x128, .f32⟩
  | .hbm, ⟨71, _⟩ => ⟨S4x1x128, .f32⟩
  | .hbm, ⟨72, _⟩ => ⟨S4x1x128, .f32⟩
  | .hbm, ⟨73, _⟩ => ⟨S16384x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2x128x128, .f32⟩
  | .local _ .vmem, ⟨9, _⟩ => ⟨S2x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | .local _ .vmem, ⟨20, _⟩ => ⟨S2048x128, .bf16⟩
  | .local _ .vmem, ⟨21, _⟩ => ⟨S2048x128, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c16_i32 : BitVec 32 := 16#32
  let v26 : BitVec 32 := Scalar.addi c0_i32 c16_i32
  let c1_i32 : BitVec 32 := 1#32
  ⟨c0_i32, v26, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v28 : BitVec 32 := Scalar.muli arg13 c128_i32
  v28
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v28 : BitVec 32 := Scalar.muli arg13 c128_i32
  let v29 : BitVec 32 := v28
  let v30 : Index := Scalar.indexCast v29
  let c0_23 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16384x512 : Shape := ⟨2, ![16384, 512]⟩
abbrev S8x64 : Shape := ⟨2, ![8, 64]⟩
abbrev S8x2048x8x64 : Shape := ⟨4, ![8, 2048, 8, 64]⟩
abbrev S8 : Shape := ⟨1, ![8]⟩
abbrev S_ : Shape := ⟨0, ![]⟩
abbrev S8x16x128x8x64 : Shape := ⟨5, ![8, 16, 128, 8, 64]⟩
abbrev S128 : Shape := ⟨1, ![128]⟩
abbrev S1x8 : Shape := ⟨2, ![1, 8]⟩
abbrev S128x1 : Shape := ⟨2, ![128, 1]⟩
abbrev S128x8 : Shape := ⟨2, ![128, 8]⟩
abbrev S1x1x128x8x1 : Shape := ⟨5, ![1, 1, 128, 8, 1]⟩
abbrev S8x16x8x64x64 : Shape := ⟨5, ![8, 16, 8, 64, 64]⟩
abbrev S1x8x1x1 : Shape := ⟨4, ![1, 8, 1, 1]⟩
abbrev S8x8x64x64 : Shape := ⟨4, ![8, 8, 64, 64]⟩
abbrev S16x8x8x64x64 : Shape := ⟨5, ![16, 8, 8, 64, 64]⟩
abbrev S1x8x8x64x64 : Shape := ⟨5, ![1, 8, 8, 64, 64]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x16x8x128x128 : Shape := ⟨5, ![8, 16, 8, 128, 128]⟩
abbrev S1x1x8x128x128 : Shape := ⟨5, ![1, 1, 8, 128, 128]⟩
abbrev S8x16x8x64x128 : Shape := ⟨5, ![8, 16, 8, 64, 128]⟩
abbrev S8x2048x8 : Shape := ⟨3, ![8, 2048, 8]⟩
abbrev S8x2048x8x1 : Shape := ⟨4, ![8, 2048, 8, 1]⟩
abbrev S1x1x8x64 : Shape := ⟨4, ![1, 1, 8, 64]⟩

abbrev nBuf : Space → Nat
  | .hbm => 170
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .bf16⟩
  | 4 => ⟨S8x64, .f32⟩
  | 5 => ⟨S8x64, .f32⟩
  | 6 => ⟨S16384x512, .f32⟩
  | 7 => ⟨S8x2048x8x64, .f32⟩
  | 8 => ⟨S16384x512, .f32⟩
  | 9 => ⟨S8x2048x8x64, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S8, .f32⟩
  | 19 => ⟨S8x16x128x8x64, .f32⟩
  | 20 => ⟨S8x16x128x8x64, .f32⟩
  | 21 => ⟨S128, .f32⟩
  | 22 => ⟨S1x8, .f32⟩
  | 23 => ⟨S_, .f32⟩
  | 24 => ⟨S128, .f32⟩
  | 25 => ⟨S128, .f32⟩
  | 26 => ⟨S128x1, .f32⟩
  | 27 => ⟨S128x8, .f32⟩
  | 28 => ⟨S128x8, .f32⟩
  | 29 => ⟨S128x8, .f32⟩
  | 30 => ⟨S128x8, .f32⟩
  | 31 => ⟨S1x1x128x8x1, .f32⟩
  | 32 => ⟨S8x16x128x8x64, .f32⟩
  | 33 => ⟨S8x16x128x8x64, .f32⟩
  | 34 => ⟨S8x16x8x64x64, .f32⟩
  | 35 => ⟨S_, .f32⟩
  | 36 => ⟨S8, .f32⟩
  | 37 => ⟨S8, .f32⟩
  | 38 => ⟨S8, .f32⟩
  | 39 => ⟨S1x8x1x1, .f32⟩
  | 40 => ⟨S_, .f32⟩
  | 41 => ⟨S8x8x64x64, .f32⟩
  | 42 => ⟨S16x8x8x64x64, .f32⟩
  | 43 => ⟨S_, .f32⟩
  | 44 => ⟨S16x8x8x64x64, .f32⟩
  | 45 => ⟨S_, .i32⟩
  | 46 => ⟨S16x8x8x64x64, .f32⟩
  | 47 => ⟨S1x8x1x1, .f32⟩
  | 48 => ⟨S_, .i32⟩
  | 49 => ⟨S8x8x64x64, .f32⟩
  | 50 => ⟨S16x8x8x64x64, .f32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S1x8x8x64x64, .f32⟩
  | 58 => ⟨S8x8x64x64, .f32⟩
  | 59 => ⟨S8x8x64x64, .f32⟩
  | 60 => ⟨S8x8x64x64, .f32⟩
  | 61 => ⟨S8x8x64x64, .f32⟩
  | 62 => ⟨S1x8x8x64x64, .f32⟩
  | 63 => ⟨S_, .i32⟩
  | 64 => ⟨S_, .i32⟩
  | 65 => ⟨S_, .i32⟩
  | 66 => ⟨S_, .i32⟩
  | 67 => ⟨S16x8x8x64x64, .f32⟩
  | 68 => ⟨S_, .i32⟩
  | 69 => ⟨S_, .i32⟩
  | 70 => ⟨S8x16x8x64x64, .f32⟩
  | 71 => ⟨S16384x512, .f32⟩
  | 72 => ⟨S8x2048x8x64, .f32⟩
  | 73 => ⟨S16384x512, .f32⟩
  | 74 => ⟨S8x2048x8x64, .f32⟩
  | 75 => ⟨S16384x512, .f32⟩
  | 76 => ⟨S8x2048x8x64, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S8, .f32⟩
  | 85 => ⟨S8, .f32⟩
  | 86 => ⟨S8x16x128x8x64, .f32⟩
  | 87 => ⟨S8x16x128x8x64, .f32⟩
  | 88 => ⟨S8x16x128x8x64, .f32⟩
  | 89 => ⟨S128, .f32⟩
  | 90 => ⟨S128x1, .f32⟩
  | 91 => ⟨S1x128, .f32⟩
  | 92 => ⟨S128x128, .f32⟩
  | 93 => ⟨S128x128, .f32⟩
  | 94 => ⟨S128x128, .f32⟩
  | 95 => ⟨S128, .i32⟩
  | 96 => ⟨S128x1, .i32⟩
  | 97 => ⟨S1x128, .i32⟩
  | 98 => ⟨S128x128, .i32⟩
  | 99 => ⟨S128x128, .i32⟩
  | 100 => ⟨S128x128, .i1⟩
  | 101 => ⟨S8x1x1, .f32⟩
  | 102 => ⟨S_, .f32⟩
  | 103 => ⟨S128x128, .f32⟩
  | 104 => ⟨S128x128, .f32⟩
  | 105 => ⟨S1x128x128, .f32⟩
  | 106 => ⟨S8x128x128, .f32⟩
  | 107 => ⟨S8x128x128, .f32⟩
  | 108 => ⟨S8x128x128, .f32⟩
  | 109 => ⟨S8x128x128, .f32⟩
  | 110 => ⟨S_, .f32⟩
  | 111 => ⟨S_, .f32⟩
  | 112 => ⟨S8x128x128, .i1⟩
  | 113 => ⟨S8x128x128, .f32⟩
  | 114 => ⟨S8x128x128, .f32⟩
  | 115 => ⟨S8x16x8x128x128, .f32⟩
  | 116 => ⟨S1x1x8x128x128, .f32⟩
  | 117 => ⟨S8x16x8x128x128, .f32⟩
  | 118 => ⟨S8x16x8x128x128, .f32⟩
  | 119 => ⟨S8x16x8x64x128, .f32⟩
  | 120 => ⟨S8x16x128x8x64, .f32⟩
  | 121 => ⟨S1x8, .f32⟩
  | 122 => ⟨S_, .f32⟩
  | 123 => ⟨S128, .f32⟩
  | 124 => ⟨S128, .f32⟩
  | 125 => ⟨S128x1, .f32⟩
  | 126 => ⟨S128x8, .f32⟩
  | 127 => ⟨S128x8, .f32⟩
  | _ => ⟨S16384x512, .bf16⟩

abbrev hbmTy0_1 (i : Nat) : BufTy := match i % 128 with
  | 0 => ⟨S128x8, .f32⟩
  | 1 => ⟨S128x8, .f32⟩
  | 2 => ⟨S1x1x128x8x1, .f32⟩
  | 3 => ⟨S8x16x128x8x64, .f32⟩
  | 4 => ⟨S8x16x128x8x64, .f32⟩
  | 5 => ⟨S8x16x8x64x128, .f32⟩
  | 6 => ⟨S8x16x128x8x64, .f32⟩
  | 7 => ⟨S8x16x128x8x64, .f32⟩
  | 8 => ⟨S8x2048x8x64, .f32⟩
  | 9 => ⟨S_, .f32⟩
  | 10 => ⟨S8x2048x8, .f32⟩
  | 11 => ⟨S8x2048x8x1, .f32⟩
  | 12 => ⟨S_, .f32⟩
  | 13 => ⟨S8x2048x8x1, .f32⟩
  | 14 => ⟨S8x2048x8x1, .f32⟩
  | 15 => ⟨S8x2048x8x64, .f32⟩
  | 16 => ⟨S8x2048x8x64, .f32⟩
  | 17 => ⟨S8x2048x8x64, .f32⟩
  | 18 => ⟨S_, .f32⟩
  | 19 => ⟨S8x2048x8, .f32⟩
  | 20 => ⟨S8x2048x8x1, .f32⟩
  | 21 => ⟨S_, .f32⟩
  | 22 => ⟨S8x2048x8x1, .f32⟩
  | 23 => ⟨S8x2048x8x1, .f32⟩
  | 24 => ⟨S8x2048x8x64, .f32⟩
  | 25 => ⟨S8x2048x8x64, .f32⟩
  | 26 => ⟨S_, .f32⟩
  | 27 => ⟨S8x2048x8x1, .f32⟩
  | 28 => ⟨S8x2048x8x1, .f32⟩
  | 29 => ⟨S8x2048x8x1, .f32⟩
  | 30 => ⟨S8x2048x8x64, .f32⟩
  | 31 => ⟨S8x2048x8x64, .f32⟩
  | 32 => ⟨S1x1x8x64, .f32⟩
  | 33 => ⟨S8x2048x8x64, .f32⟩
  | 34 => ⟨S8x2048x8x64, .f32⟩
  | 35 => ⟨S1x1x8x64, .f32⟩
  | 36 => ⟨S8x2048x8x64, .f32⟩
  | 37 => ⟨S8x2048x8x64, .f32⟩
  | 38 => ⟨S16384x512, .f32⟩
  | 39 => ⟨S16384x512, .f32⟩
  | 40 => ⟨S16384x512, .f32⟩
  | 41 => ⟨S16384x512, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_c : Ref sig .tc := ⟨.hbm, 45, rfl⟩
abbrev main_v33_0 : Ref sig .tc := ⟨.hbm, 46, rfl⟩
abbrev main_v33_1 : Ref sig .tc := ⟨.hbm, 47, rfl⟩
abbrev main_v33_2 : Ref sig .tc := ⟨.hbm, 48, rfl⟩
abbrev main_v33_3 : Ref sig .tc := ⟨.hbm, 49, rfl⟩
abbrev main_v33_4 : Ref sig .tc := ⟨.hbm, 50, rfl⟩
abbrev main_while0c_c_19 : Ref sig .tc := ⟨.hbm, 51, rfl⟩
abbrev main_while0c_v121 : Ref sig .tc := ⟨.hbm, 52, rfl⟩
abbrev main_while0b_call0_c : Ref sig .tc := ⟨.hbm, 53, rfl⟩
abbrev main_while0b_call0_c_0 : Ref sig .tc := ⟨.hbm, 54, rfl⟩
abbrev main_while0b_call0_c_1 : Ref sig .tc := ⟨.hbm, 55, rfl⟩
abbrev main_while0b_call0_c_2 : Ref sig .tc := ⟨.hbm, 56, rfl⟩
abbrev main_while0b_call0_v0 : Ref sig .tc := ⟨.hbm, 57, rfl⟩
abbrev main_while0b_v121 : Ref sig .tc := ⟨.hbm, 58, rfl⟩
abbrev main_while0b_v122 : Ref sig .tc := ⟨.hbm, 59, rfl⟩
abbrev main_while0b_v123 : Ref sig .tc := ⟨.hbm, 60, rfl⟩
abbrev main_while0b_v124 : Ref sig .tc := ⟨.hbm, 61, rfl⟩
abbrev main_while0b_call1_v0 : Ref sig .tc := ⟨.hbm, 62, rfl⟩
abbrev main_while0b_call1_c : Ref sig .tc := ⟨.hbm, 63, rfl⟩
abbrev main_while0b_call1_c_0 : Ref sig .tc := ⟨.hbm, 64, rfl⟩
abbrev main_while0b_call1_c_1 : Ref sig .tc := ⟨.hbm, 65, rfl⟩
abbrev main_while0b_call1_c_2 : Ref sig .tc := ⟨.hbm, 66, rfl⟩
abbrev main_while0b_v125 : Ref sig .tc := ⟨.hbm, 67, rfl⟩
abbrev main_while0b_c_19 : Ref sig .tc := ⟨.hbm, 68, rfl⟩
abbrev main_while0b_v126 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_5 : Ref sig .tc := ⟨.hbm, 78, rfl⟩
abbrev main_v42 : Ref sig .tc := ⟨.hbm, 79, rfl⟩
abbrev main_v43 : Ref sig .tc := ⟨.hbm, 80, rfl⟩
abbrev main_cst_6 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_7 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_8 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_9 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_10 : Ref sig .tc := ⟨.hbm, 137, rfl⟩
abbrev main_v93 : Ref sig .tc := ⟨.hbm, 138, rfl⟩
abbrev main_v94 : Ref sig .tc := ⟨.hbm, 139, rfl⟩
abbrev main_cst_11 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_12 : Ref sig .tc := ⟨.hbm, 146, rfl⟩
abbrev main_v100 : Ref sig .tc := ⟨.hbm, 147, rfl⟩
abbrev main_v101 : Ref sig .tc := ⟨.hbm, 148, rfl⟩
abbrev main_cst_13 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_14 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x2816 : Shape := ⟨2, ![512, 2816]⟩

abbrev nBuf : Space → Nat
  | .hbm => 25
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S256x1024, .f32⟩
  | .hbm, ⟨12, _⟩ => ⟨S1024x1024, .f32⟩
  | .hbm, ⟨13, _⟩ => ⟨S1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S1x1024, .f32⟩
  | .hbm, ⟨21, _⟩ => ⟨S256x1024, .bf16⟩
  | .hbm, ⟨22, _⟩ => ⟨S1024x1024, .bf16⟩
  | .hbm, ⟨23, _⟩ => ⟨S1x1024, .f32⟩
  | .hbm, ⟨24, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x1024, .f32⟩
  | .local _ .vmem, ⟨15, _⟩ => ⟨S256x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 109
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S256x1024, .f32⟩
  | .hbm, ⟨12, _⟩ => ⟨S1024x1024, .f32⟩
  | .hbm, ⟨13, _⟩ => ⟨S1024, .f32⟩
  | .hbm, ⟨14, _⟩ => ⟨S16384x512, .f32⟩
  | .hbm, ⟨15, _⟩ => ⟨S16384x512, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S_, .f32⟩
  | .hbm, ⟨55, _⟩ => ⟨S16384x2816, .f32⟩
  | .hbm, ⟨56, _⟩ => ⟨S16384x2816, .f32⟩
  | .hbm, ⟨57, _⟩ => ⟨S_, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x1024, .f32⟩
  | .hbm, ⟨76, _⟩ => ⟨S16384x1024, .f32⟩
  | .hbm, ⟨77, _⟩ => ⟨S1x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S16384x1024, .f32⟩
  | .hbm, ⟨87, _⟩ => ⟨S16384x1024, .f32⟩
  | .hbm, ⟨88, _⟩ => ⟨S_, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S_, .f32⟩
  | .hbm, ⟨100, _⟩ => ⟨S16384x1, .f32⟩
  | .hbm, ⟨101, _⟩ => ⟨S16384x1, .f32⟩
  | .hbm, ⟨102, _⟩ => ⟨S16384x1, .f32⟩
  | .hbm, ⟨103, _⟩ => ⟨S16384x1024, .f32⟩
  | .hbm, ⟨104, _⟩ => ⟨S16384x1024, .f32⟩
  | .hbm, ⟨105, _⟩ => ⟨S1x1024, .f32⟩
  | .hbm, ⟨106, _⟩ => ⟨S16384x1024, .f32⟩
  | .hbm, ⟨107, _⟩ => ⟨S16384x1024, .f32⟩
  | .hbm, ⟨108, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_v40 : Ref sig .tc := ⟨.hbm, 70, rfl⟩
abbrev main_cst_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_cst_12 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]
-- ==== Kernel3.lean ====
abbrev S16384x1024 : Shape := ⟨2, ![16384, 1024]⟩
abbrev S8x2048 : Shape := ⟨2, ![8, 2048]⟩
abbrev S1024 : Shape := ⟨1, ![1024]⟩
abbrev S1024x3272 : Shape := ⟨2, ![1024, 3272]⟩
abbrev S128 : Shape := ⟨1, ![128]⟩
abbrev S64 : Shape := ⟨1, ![64]⟩
abbrev S8x64x128 : Shape := ⟨3, ![8, 64, 128]⟩
abbrev S32 : Shape := ⟨1, ![32]⟩
abbrev S_ : Shape := ⟨0, ![]⟩
abbrev S1x32 : Shape := ⟨2, ![1, 32]⟩
abbrev S4x32 : Shape := ⟨2, ![4, 32]⟩
abbrev S1x128 : Shape := ⟨2, ![1, 128]⟩
abbrev S1x64 : Shape := ⟨2, ![1, 64]⟩
abbrev S2x64 : Shape := ⟨2, ![2, 64]⟩
abbrev S16384x1 : Shape := ⟨2, ![16384, 1]⟩
abbrev S16384x128 : Shape := ⟨2, ![16384, 128]⟩
abbrev S1024x1 : Shape := ⟨2, ![1024, 1]⟩
abbrev S1024x128 : Shape := ⟨2, ![1024, 128]⟩
abbrev S1024x2048 : Shape := ⟨2, ![1024, 2048]⟩
abbrev S1024x64 : Shape := ⟨2, ![1024, 64]⟩
abbrev S1024x2304 : Shape := ⟨2, ![1024, 2304]⟩
abbrev S1024x512 : Shape := ⟨2, ![1024, 512]⟩
abbrev S1024x1024 : Shape := ⟨2, ![1024, 1024]⟩
abbrev S1024x8 : Shape := ⟨2, ![1024, 8]⟩
abbrev S1024x16 : Shape := ⟨2, ![1024, 16]⟩
abbrev S16x1024 : Shape := ⟨2, ![16, 1024]⟩
abbrev S8x128x64 : Shape := ⟨3, ![8, 128, 64]⟩
abbrev S1x1024 : Shape := ⟨2, ![1, 1024]⟩
abbrev S16384x512 : Shape := ⟨2, ![16384, 512]⟩
abbrev S128x128x128 : Shape := ⟨3, ![128, 128, 128]⟩
abbrev S16384x64 : Shape := ⟨2, ![16384, 64]⟩
abbrev S128x4x64x256 : Shape := ⟨4, ![128, 4, 64, 256]⟩
abbrev S128x4x1x256 : Shape := ⟨4, ![128, 4, 1, 256]⟩
abbrev S128x4x128x256 : Shape := ⟨4, ![128, 4, 128, 256]⟩
abbrev S512x1024 : Shape := ⟨2, ![512, 1024]⟩
abbrev S512x128 : Shape := ⟨2, ![512, 128]⟩
abbrev S512x512 : Shape := ⟨2, ![512, 512]⟩
abbrev S4x128x128 : Shape := ⟨3, ![4, 128, 128]⟩
abbrev S512x64 : Shape := ⟨2, ![512, 64]⟩
abbrev S4x4x64x256 : Shape := ⟨4, ![4, 4, 64, 256]⟩
abbrev S4x4x1x256 : Shape := ⟨4, ![4, 4, 1, 256]⟩
abbrev S4x4x128x256 : Shape := ⟨4, ![4, 4, 128, 256]⟩
abbrev S512 : Shape := ⟨1, ![512]⟩
abbrev S512x1 : Shape := ⟨2, ![512, 1]⟩
abbrev S512x2304 : Shape := ⟨2, ![512, 2304]⟩
abbrev S16x512 : Shape := ⟨2, ![16, 512]⟩
abbrev S128x128 : Shape := ⟨2, ![128, 128]⟩
abbrev S1x128x128 : Shape := ⟨3, ![1, 128, 128]⟩
abbrev S8x512 : Shape := ⟨2, ![8, 512]⟩
abbrev S64x512 : Shape := ⟨2, ![64, 512]⟩
abbrev S1x128x64 : Shape := ⟨3, ![1, 128, 64]⟩
abbrev S128x64 : Shape := ⟨2, ![128, 64]⟩
abbrev S128x512 : Shape := ⟨2, ![128, 512]⟩
abbrev S64x128 : Shape := ⟨2, ![64, 128]⟩
abbrev S1x1x64x128 : Shape := ⟨4, ![1, 1, 64, 128]⟩
abbrev S1x1x128x128 : Shape := ⟨4, ![1, 1, 128, 128]⟩
abbrev S1x1x1x128 : Shape := ⟨4, ![1, 1, 1, 128]⟩

abbrev nBuf : Space → Nat
  | .hbm => 75
  | .vmem => 42
  | .smem => 0
  | _ => 0

abbrev bufTy : (tb : Table) → Fin (tcTables nBuf tb) → BufTy
  | .hbm, ⟨0, _⟩ => ⟨S16384x1024, .f32⟩
  | .hbm, ⟨1, _⟩ => ⟨S8x2048, .i32⟩
  | .hbm, ⟨2, _⟩ => ⟨S1024, .f32⟩
  | .hbm, ⟨3, _⟩ => ⟨S1024x3272, .f32⟩
  | .hbm, ⟨4, _⟩ => ⟨S128, .f32⟩
  | .hbm, ⟨5, _⟩ => ⟨S64, .f32⟩
  | .hbm, ⟨6, _⟩ => ⟨S64, .f32⟩
  | .hbm, ⟨7, _⟩ => ⟨S8x64x128, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S1x32, .f32⟩
  | .hbm, ⟨25, _⟩ => ⟨S4x32, .f32⟩
  | .hbm, ⟨26, _⟩ => ⟨S128, .f32⟩
  | .hbm, ⟨27, _⟩ => ⟨S1x128, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S64, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S16384x1, .i32⟩
  | .hbm, ⟨39, _⟩ => ⟨S16384x128, .f32⟩
  | .hbm, ⟨40, _⟩ => ⟨S16384x128, .f32⟩
  | .hbm, ⟨41, _⟩ => ⟨S1024x2048, .f32⟩
  | .hbm, ⟨42, _⟩ => ⟨S1024x128, .f32⟩
  | .hbm, ⟨43, _⟩ => ⟨S1024x64, .f32⟩
  | .hbm, ⟨44, _⟩ => ⟨S_, .f32⟩
  | .hbm, ⟨45, _⟩ => ⟨S1024x64, .f32⟩
  | .hbm, ⟨46, _⟩ => ⟨S1024x2304, .f32⟩
  | .hbm, ⟨47, _⟩ => ⟨S1024x2304, .bf16⟩
  | .hbm, ⟨48, _⟩ => ⟨S1024x512, .f32⟩
  | .hbm, ⟨49, _⟩ => ⟨S1024x512, .f32⟩
  | .hbm, ⟨50, _⟩ => ⟨S1024x1024, .f32⟩
  | .hbm, ⟨51, _⟩ => ⟨S1024x1024, .f32⟩
  | .hbm, ⟨52, _⟩ => ⟨S1024x1024, .bf16⟩
  | .hbm, ⟨53, _⟩ => ⟨S1024x8, .f32⟩
  | .hbm, ⟨54, _⟩ => ⟨S_, .f32⟩
  | .hbm, ⟨55, _⟩ => ⟨S1024x8, .f32⟩
  | .hbm, ⟨56, _⟩ => ⟨S1024x16, .f32⟩
  | .hbm, ⟨57, _⟩ => ⟨S16x1024, .f32⟩
  | .hbm, ⟨58, _⟩ => ⟨S16x1024, .bf16⟩
  | .hbm, ⟨59, _⟩ => ⟨S8x128x64, .f32⟩
  | .hbm, ⟨60, _⟩ => ⟨S8x128x64, .bf16⟩
  | .hbm, ⟨61, _⟩ => ⟨S1x1024, .f32⟩
  | .hbm, ⟨62, _⟩ => ⟨S1x128, .f32⟩
  | .hbm, ⟨63, _⟩ => ⟨S1x64, .f32⟩
  | .hbm, ⟨64, _⟩ => ⟨S1x64, .f32⟩
  | .hbm, ⟨65, _⟩ => ⟨S16384x512, .bf16⟩
  | .hbm, ⟨66, _⟩ => ⟨S16384x512, .bf16⟩
  | .hbm, ⟨67, _⟩ => ⟨S16384x512, .bf16⟩
  | .hbm, ⟨68, _⟩ => ⟨S16384x512, .bf16⟩
  | .hbm, ⟨69, _⟩ => ⟨S16384x128, .bf16⟩
  | .hbm, ⟨70, _⟩ => ⟨S128x128x128, .bf16⟩
  | .hbm, ⟨71, _⟩ => ⟨S16384x64, .bf16⟩
  | .hbm, ⟨72, _⟩ => ⟨S128x4x64x256, .bf16⟩
  | .hbm, ⟨73, _⟩ => ⟨S128x4x1x256, .f32⟩
  | .hbm, ⟨74, _⟩ => ⟨S128x4x128x256, .bf16⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1024x2304, .bf16⟩
  | .local _ .vmem, ⟨12, _⟩ => ⟨S1024x1024, .bf16⟩
  | .local _ .vmem, ⟨13, _⟩ => ⟨S16x1024, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x64, .f32⟩
  | .local _ .vmem, ⟨20, _⟩ => ⟨S1x64, .f32⟩
  | .local _ .vmem, ⟨21, _⟩ => ⟨S8x128x64, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x128, .bf16⟩
  | .local _ .vmem, ⟨31, _⟩ => ⟨S512x128, .bf16⟩
  | .local _ .vmem, ⟨32, _⟩ => ⟨S4x128x128, .bf16⟩
  | .local _ .vmem, ⟨33, _⟩ => ⟨S4x128x128, .bf16⟩
  | .local _ .vmem, ⟨34, _⟩ => ⟨S512x64, .bf16⟩
  | .local _ .vmem, ⟨35, _⟩ => ⟨S512x64, .bf16⟩
  | .local _ .vmem, ⟨36, _⟩ => ⟨S4x4x64x256, .bf16⟩
  | .local _ .vmem, ⟨37, _⟩ => ⟨S4x4x64x256, .bf16⟩
  | .local _ .vmem, ⟨38, _⟩ => ⟨S4x4x1x256, .f32⟩
  | .local _ .vmem, ⟨39, _⟩ => ⟨S4x4x1x256, .f32⟩
  | .local _ .vmem, ⟨40, _⟩ => ⟨S4x4x128x256, .bf16⟩
  | .local _ .vmem, ⟨41, _⟩ => ⟨S4x4x128x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev main_v47_2 : Ref sig .tc := ⟨.hbm, 67, rfl⟩
abbrev main_v47_3 : Ref sig .tc := ⟨.hbm, 68, rfl⟩
abbrev main_v47_4 : Ref sig .tc := ⟨.hbm, 69, rfl⟩
abbrev main_v47_5 : Ref sig .tc := ⟨.hbm, 70, rfl⟩
abbrev main_v47_6 : Ref sig .tc := ⟨.hbm, 71, rfl⟩
abbrev main_v47_7 : Ref sig .tc := ⟨.hbm, 72, rfl⟩
abbrev main_v47_8 : Ref sig .tc := ⟨.hbm, 73, rfl⟩
abbrev main_v47_9 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg13_1 : Ref sig .tc := ⟨.vmem, 27, rfl⟩
abbrev cc1_stg14_0 : Ref sig .tc := ⟨.vmem, 28, rfl⟩
abbrev cc1_stg14_1 : Ref sig .tc := ⟨.vmem, 29, rfl⟩
abbrev cc1_stg15_0 : Ref sig .tc := ⟨.vmem, 30, rfl⟩
abbrev cc1_stg15_1 : Ref sig .tc := ⟨.vmem, 31, rfl⟩
abbrev cc1_stg16_0 : Ref sig .tc := ⟨.vmem, 32, rfl⟩
abbrev cc1_stg16_1 : Ref sig .tc := ⟨.vmem, 33, rfl⟩
abbrev cc1_stg17_0 : Ref sig .tc := ⟨.vmem, 34, rfl⟩
abbrev cc1_stg17_1 : Ref sig .tc := ⟨.vmem, 35, rfl⟩
abbrev cc1_stg18_0 : Ref sig .tc := ⟨.vmem, 36, rfl⟩
abbrev cc1_stg18_1 : Ref sig .tc := ⟨.vmem, 37, rfl⟩
abbrev cc1_stg19_0 : Ref sig .tc := ⟨.vmem, 38, rfl⟩
abbrev cc1_stg19_1 : Ref sig .tc := ⟨.vmem, 39, rfl⟩
abbrev cc1_stg20_0 : Ref sig .tc := ⟨.vmem, 40, rfl⟩
abbrev cc1_stg20_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem11_1 : DmaSem sig := 23
abbrev cc1_sem12_0 : DmaSem sig := 24
abbrev cc1_sem12_1 : DmaSem sig := 25
abbrev cc1_sem13_0 : DmaSem sig := 26
abbrev cc1_sem13_1 : DmaSem sig := 27
abbrev cc1_sem14_0 : DmaSem sig := 28
abbrev cc1_sem14_1 : DmaSem sig := 29
abbrev cc1_sem15_0 : DmaSem sig := 30
abbrev cc1_sem15_1 : DmaSem sig := 31
abbrev cc1_sem16_0 : DmaSem sig := 32
abbrev cc1_sem16_1 : DmaSem sig := 33
abbrev cc1_sem17_0 : DmaSem sig := 34
abbrev cc1_sem17_1 : DmaSem sig := 35
abbrev cc1_sem18_0 : DmaSem sig := 36
abbrev cc1_sem18_1 : DmaSem sig := 37
abbrev cc1_sem19_0 : DmaSem sig := 38
abbrev cc1_sem19_1 : DmaSem sig := 39
abbrev cc1_sem20_0 : DmaSem sig := 40
abbrev cc1_sem20_1 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_19 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_20 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x2304 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S8x128x64 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S512x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x512 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x128 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S4x128x128 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S512x64 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S4x4x64x256 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S4x4x1x256 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S4x4x128x256 .bf16 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]
-- ==== Reference3Ideal.lean ====
abbrev S16384x1024 : Shape := ⟨2, ![16384, 1024]⟩
abbrev S8x2048 : Shape := ⟨2, ![8, 2048]⟩
abbrev S1024 : Shape := ⟨1, ![1024]⟩
abbrev S1024x3272 : Shape := ⟨2, ![1024, 3272]⟩
abbrev S128 : Shape := ⟨1, ![128]⟩
abbrev S64 : Shape := ⟨1, ![64]⟩
abbrev S8x64x128 : Shape := ⟨3, ![8, 64, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3272 : Shape := ⟨2, ![16384, 3272]⟩
abbrev S16384x512 : Shape := ⟨2, ![16384, 512]⟩
abbrev S16384x128 : Shape := ⟨2, ![16384, 128]⟩
abbrev S16384x64 : Shape := ⟨2, ![16384, 64]⟩
abbrev S16384x8 : Shape := ⟨2, ![16384, 8]⟩
abbrev S8x2048x8x64 : Shape := ⟨4, ![8, 2048, 8, 64]⟩
abbrev S32 : Shape := ⟨1, ![32]⟩
abbrev S8x2048x1 : Shape := ⟨3, ![8, 2048, 1]⟩
abbrev S1x1x32 : Shape := ⟨3, ![1, 1, 32]⟩
abbrev S8x2048x32 : Shape := ⟨3, ![8, 2048, 32]⟩
abbrev S8x2048x1x32 : Shape := ⟨4, ![8, 2048, 1, 32]⟩
abbrev S8x2048x8x32 : Shape := ⟨4, ![8, 2048, 8, 32]⟩
abbrev S1x128 : Shape := ⟨2, ![1, 128]⟩
abbrev S16384x8x64 : Shape := ⟨3, ![16384, 8, 64]⟩
abbrev S8x128x16384 : Shape := ⟨3, ![8, 128, 16384]⟩
abbrev S16384x8x128 : Shape := ⟨3, ![16384, 8, 128]⟩
abbrev S1x64 : Shape := ⟨2, ![1, 64]⟩
abbrev S128x128x128 : Shape := ⟨3, ![128, 128, 128]⟩
abbrev S128x128x4x2x64 : Shape := ⟨5, ![128, 128, 4, 2, 64]⟩
abbrev S128x4x64x2x128 : Shape := ⟨5, ![128, 4, 64, 2, 128]⟩
abbrev S128x4x64x256 : Shape := ⟨4, ![128, 4, 64, 256]⟩
abbrev S128x128x4x2x1 : Shape := ⟨5, ![128, 128, 4, 2, 1]⟩
abbrev S128x4x1x2x128 : Shape := ⟨5, ![128, 4, 1, 2, 128]⟩
abbrev S128x4x1x256 : Shape := ⟨4, ![128, 4, 1, 256]⟩
abbrev S128x128x4x2x128 : Shape := ⟨5, ![128, 128, 4, 2, 128]⟩
abbrev S128x4x128x2x128 : Shape := ⟨5, ![128, 4, 128, 2, 128]⟩
abbrev S128x4x128x256 : Shape := ⟨4, ![128, 4, 128, 256]⟩

abbrev nBuf : Space → Nat
  | .hbm => 202
  | .vmem => 0
  | .smem => 0
  | _ => 0

abbrev hbmTy0_0 (i : Nat) : BufTy := match i % 128 with
  | 0 => ⟨S16384x1024, .f32⟩
  | 1 => ⟨S8x2048, .i32⟩
  | 2 => ⟨S1024, .f32⟩
  | 3 => ⟨S1024x3272, .f32⟩
  | 4 => ⟨S128, .f32⟩
  | 5 => ⟨S64, .f32⟩
  | 6 => ⟨S64, .f32⟩
  | 7 => ⟨S8x64x128, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S16384x3272, .f32⟩
  | 25 => ⟨S16384x512, .f32⟩
  | 26 => ⟨S16384x512, .f32⟩
  | 27 => ⟨S16384x512, .f32⟩
  | 28 => ⟨S16384x512, .f32⟩
  | 29 => ⟨S16384x512, .f32⟩
  | 30 => ⟨S16384x128, .f32⟩
  | 31 => ⟨S16384x512, .f32⟩
  | 32 => ⟨S16384x64, .f32⟩
  | 33 => ⟨S16384x8, .f32⟩
  | 34 => ⟨S8x2048x8x64, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S8x2048, .f32⟩
  | 52 => ⟨S8x2048x1, .f32⟩
  | 53 => ⟨S1x1x32, .f32⟩
  | 54 => ⟨S8x2048x32, .f32⟩
  | 55 => ⟨S8x2048x32, .f32⟩
  | 56 => ⟨S8x2048x32, .f32⟩
  | 57 => ⟨S8x2048x32, .f32⟩
  | 58 => ⟨S8x2048x1x32, .f32⟩
  | 59 => ⟨S8x2048x32, .f32⟩
  | 60 => ⟨S8x2048x1x32, .f32⟩
  | 61 => ⟨S8x2048x8x32, .f32⟩
  | 62 => ⟨S8x2048x8x32, .f32⟩
  | 63 => ⟨S8x2048x8x32, .f32⟩
  | 64 => ⟨S8x2048x8x32, .f32⟩
  | 65 => ⟨S8x2048x8x32, .f32⟩
  | 66 => ⟨S8x2048x8x32, .f32⟩
  | 67 => ⟨S8x2048x8x32, .f32⟩
  | 68 => ⟨S8x2048x8x32, .f32⟩
  | 69 => ⟨S8x2048x8x32, .f32⟩
  | 70 => ⟨S8x2048x8x32, .f32⟩
  | 71 => ⟨S8x2048x8x32, .f32⟩
  | 72 => ⟨S8x2048x8x32, .f32⟩
  | 73 => ⟨S8x2048x8x64, .f32⟩
  | 74 => ⟨S8x2048x8x64, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S8x2048, .f32⟩
  | 92 => ⟨S8x2048x1, .f32⟩
  | 93 => ⟨S1x1x32, .f32⟩
  | 94 => ⟨S8x2048x32, .f32⟩
  | 95 => ⟨S8x2048x32, .f32⟩
  | 96 => ⟨S8x2048x32, .f32⟩
  | 97 => ⟨S8x2048x32, .f32⟩
  | 98 => ⟨S8x2048x1x32, .f32⟩
  | 99 => ⟨S8x2048x32, .f32⟩
  | 100 => ⟨S8x2048x1x32, .f32⟩
  | 101 => ⟨S8x2048x8x32, .f32⟩
  | 102 => ⟨S8x2048x8x32, .f32⟩
  | 103 => ⟨S8x2048x8x32, .f32⟩
  | 104 => ⟨S8x2048x8x32, .f32⟩
  | 105 => ⟨S8x2048x8x32, .f32⟩
  | 106 => ⟨S8x2048x8x32, .f32⟩
  | 107 => ⟨S8x2048x8x32, .f32⟩
  | 108 => ⟨S8x2048x8x32, .f32⟩
  | 109 => ⟨S8x2048x8x32, .f32⟩
  | 110 => ⟨S8x2048x8x32, .f32⟩
  | 111 => ⟨S8x2048x8x32, .f32⟩
  | 112 => ⟨S8x2048x8x32, .f32⟩
  | 113 => ⟨S8x2048x8x64, .f32⟩
  | 114 => ⟨S_, .f32⟩
  | 115 => ⟨S8x2048x8x64, .f32⟩
  | 116 => ⟨S8x2048x8x64, .f32⟩
  | 117 => ⟨S16384x128, .f32⟩
  | 118 => ⟨S_, .f32⟩
  | 119 => ⟨S16384, .f32⟩
  | 120 => ⟨S16384x1, .f32⟩
  | 121 => ⟨S_, .f32⟩
  | 122 => ⟨S16384x1, .f32⟩
  | 123 => ⟨S16384x1, .f32⟩
  | 124 => ⟨S_, .f32⟩
  | 125 => ⟨S16384x1, .f32⟩
  | 126 => ⟨S16384x1, .f32⟩
  | 127 => ⟨S16384x1, .f32⟩
  | _ => ⟨S16384x1024, .f32⟩

abbrev hbmTy0_1 (i : Nat) : BufTy := match i % 128 with
  | 0 => ⟨S16384x128, .f32⟩
  | 1 => ⟨S16384x128, .f32⟩
  | 2 => ⟨S1x128, .f32⟩
  | 3 => ⟨S16384x128, .f32⟩
  | 4 => ⟨S16384x128, .f32⟩
  | 5 => ⟨S16384x8x64, .f32⟩
  | 6 => ⟨S8x128x16384, .f32⟩
  | 7 => ⟨S16384x8x128, .f32⟩
  | 8 => ⟨S_, .f32⟩
  | 9 => ⟨S16384x8x128, .f32⟩
  | 10 => ⟨S16384x8x128, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S16384x64, .f32⟩
  | 18 => ⟨S16384x64, .f32⟩
  | 19 => ⟨S16384x64, .f32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S16384x64, .f32⟩
  | 27 => ⟨S16384x64, .f32⟩
  | 28 => ⟨S_, .f32⟩
  | 29 => ⟨S16384x1, .f32⟩
  | 30 => ⟨S16384x1, .f32⟩
  | 31 => ⟨S16384x1, .f32⟩
  | 32 => ⟨S16384x64, .f32⟩
  | 33 => ⟨S16384x64, .f32⟩
  | 34 => ⟨S1x64, .f32⟩
  | 35 => ⟨S16384x64, .f32⟩
  | 36 => ⟨S16384x64, .f32⟩
  | 37 => ⟨S1x64, .f32⟩
  | 38 => ⟨S16384x64, .f32⟩
  | 39 => ⟨S16384x64, .f32⟩
  | 40 => ⟨S_, .f32⟩
  | 41 => ⟨S16384x8, .f32⟩
  | 42 => ⟨S16384x8, .f32⟩
  | 43 => ⟨S16384x512, .f32⟩
  | 44 => ⟨S16384x512, .bf16⟩
  | 45 => ⟨S16384x512, .f32⟩
  | 46 => ⟨S16384x512, .bf16⟩
  | 47 => ⟨S16384x512, .bf16⟩
  | 48 => ⟨S16384x512, .f32⟩
  | 49 => ⟨S16384x512, .f32⟩
  | 50 => ⟨S_, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S16384x512, .f32⟩
  | 57 => ⟨S16384x512, .bf16⟩
  | 58 => ⟨S16384x128, .bf16⟩
  | 59 => ⟨S128x128x128, .f32⟩
  | 60 => ⟨S128x128x128, .f32⟩
  | 61 => ⟨S128x128x128, .bf16⟩
  | 62 => ⟨S16384x64, .bf16⟩
  | 63 => ⟨S128x128x4x2x64, .f32⟩
  | 64 => ⟨S128x4x64x2x128, .f32⟩
  | 65 => ⟨S128x4x64x256, .f32⟩
  | 66 => ⟨S128x4x64x256, .bf16⟩
  | 67 => ⟨S128x128x4x2x1, .f32⟩
  | 68 => ⟨S128x4x1x2x128, .f32⟩
  | 69 => ⟨S128x4x1x256, .f32⟩
  | 70 => ⟨S128x128x4x2x128, .f32⟩
  | 71 => ⟨S128x4x128x2x128, .f32⟩
  | 72 => ⟨S128x4x128x256, .f32⟩
  | 73 => ⟨S128x4x128x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_12 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_13 : Ref sig .tc := ⟨.hbm, 118, rfl⟩
abbrev main_v96 : Ref sig .tc := ⟨.hbm, 119, rfl⟩
abbrev main_v97 : Ref sig .tc := ⟨.hbm, 120, rfl⟩
abbrev main_cst_14 : Ref sig .tc := ⟨.hbm, 121, rfl⟩
abbrev main_v98 : Ref sig .tc := ⟨.hbm, 122, rfl⟩
abbrev main_v99 : Ref sig .tc := ⟨.hbm, 123, rfl⟩
abbrev main_cst_15 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_cst_16 : Ref sig .tc := ⟨.hbm, 136, rfl⟩
abbrev main_v111 : Ref sig .tc := ⟨.hbm, 137, rfl⟩
abbrev main_v112 : Ref sig .tc := ⟨.hbm, 138, rfl⟩
abbrev main_cst_17 : Ref sig .tc := ⟨.hbm, 139, rfl⟩
abbrev main_v113 : Ref sig .tc := ⟨.hbm, 140, rfl⟩
abbrev main_v114 : Ref sig .tc := ⟨.hbm, 141, rfl⟩
abbrev main_cst_18 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_19 : Ref sig .tc := ⟨.hbm, 148, rfl⟩
abbrev main_v120 : Ref sig .tc := ⟨.hbm, 149, rfl⟩
abbrev main_v121 : Ref sig .tc := ⟨.hbm, 150, rfl⟩
abbrev main_cst_20 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_21 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_22 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_call0_v0 : Ref sig .tc := ⟨.hbm, 176, rfl⟩
abbrev main_call0_v1 : Ref sig .tc := ⟨.hbm, 177, rfl⟩
abbrev main_call0_cst : Ref sig .tc := ⟨.hbm, 178, rfl⟩
abbrev main_call0_v2 : Ref sig .tc := ⟨.hbm, 179, rfl⟩
abbrev main_call0_v3 : Ref sig .tc := ⟨.hbm, 180, rfl⟩
abbrev main_call0_cst_0 : Ref sig .tc := ⟨.hbm, 181, rfl⟩
abbrev main_call0_v4 : Ref sig .tc := ⟨.hbm, 182, rfl⟩
abbrev main_call0_v5 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩

abbrev nD : Nat := 1
abbrev τ : Topo := Topo.v7x

variable {F : FTy → Type} [FloatOps F]
-- ==== Kernel4.lean ====
abbrev S16384x64 : Shape := ⟨2, ![16384, 64]⟩
abbrev S16384x128 : Shape := ⟨2, ![16384, 128]⟩
abbrev S128x128x128 : Shape := ⟨3, ![128, 128, 128]⟩
abbrev S128x4x64x256 : Shape := ⟨4, ![128, 4, 64, 256]⟩
abbrev S128x4x1x256 : Shape := ⟨4, ![128, 4, 1, 256]⟩
abbrev S128x4x128x256 : Shape := ⟨4, ![128, 4, 128, 256]⟩
abbrev S8x128x64 : Shape := ⟨3, ![8, 128, 64]⟩
abbrev S8x64x128 : Shape := ⟨3, ![8, 64, 128]⟩
abbrev S16384x512 : Shape := ⟨2, ![16384, 512]⟩
abbrev S2048x64 : Shape := ⟨2, ![2048, 64]⟩
abbrev S2048x128 : Shape := ⟨2, ![2048, 128]⟩
abbrev S16x128x128 : Shape := ⟨3, ![16, 128, 128]⟩
abbrev S1x4x64x256 : Shape := ⟨4, ![1, 4, 64, 256]⟩
abbrev S1x4x1x256 : Shape := ⟨4, ![1, 4, 1, 256]⟩
abbrev S1x4x128x256 : Shape := ⟨4, ![1, 4, 128, 256]⟩
abbrev S128x512 : Shape := ⟨2, ![128, 512]⟩
abbrev S4x128x256 : Shape := ⟨3, ![4, 128, 256]⟩
abbrev S4x256x256 : Shape := ⟨3, ![4, 256, 256]⟩
abbrev S256x128 : Shape := ⟨2, ![256, 128]⟩
abbrev S1x128 : Shape := ⟨2, ![1, 128]⟩
abbrev S256x64 : Shape := ⟨2, ![256, 64]⟩
abbrev S1x1x64x256 : Shape := ⟨4, ![1, 1, 64, 256]⟩
abbrev S64x256 : Shape := ⟨2, ![64, 256]⟩
abbrev S256x256 : Shape := ⟨2, ![256, 256]⟩
abbrev S1x1x1x256 : Shape := ⟨4, ![1, 1, 1, 256]⟩
abbrev S1x256 : Shape := ⟨2, ![1, 256]⟩
abbrev S16x128 : Shape := ⟨2, ![16, 128]⟩
abbrev S128 : Shape := ⟨1, ![128]⟩
abbrev S8x128 : Shape := ⟨2, ![8, 128]⟩
abbrev S1x1x128 : Shape := ⟨3, ![1, 1, 128]⟩
abbrev S1 : Shape := ⟨1, ![1]⟩
abbrev S1x1x1 : Shape := ⟨3, ![1, 1, 1]⟩
abbrev S1x128x128 : Shape := ⟨3, ![1, 128, 128]⟩
abbrev S128x128 : Shape := ⟨2, ![128, 128]⟩
abbrev S128x256 : Shape := ⟨2, ![128, 256]⟩
abbrev S1x1x128x256 : Shape := ⟨4, ![1, 1, 128, 256]⟩
abbrev S1x256x256 : Shape := ⟨3, ![1, 256, 256]⟩
abbrev S1x256x128 : Shape := ⟨3, ![1, 256, 128]⟩
abbrev S1x128x256 : Shape := ⟨3, ![1, 128, 256]⟩
abbrev S1x64x128 : Shape := ⟨3, ![1, 64, 128]⟩
abbrev S64x128 : Shape := ⟨2, ![64, 128]⟩
abbrev S512x128 : Shape := ⟨2, ![512, 128]⟩

abbrev nBuf : Space → Nat
  | .hbm => 10
  | .vmem => 20
  | .smem => 0
  | _ => 0

abbrev bufTy : (tb : Table) → Fin (tcTables nBuf tb) → BufTy
  | .hbm, ⟨0, _⟩ => ⟨S16384x64, .bf16⟩
  | .hbm, ⟨1, _⟩ => ⟨S16384x128, .bf16⟩
  | .hbm, ⟨2, _⟩ => ⟨S128x128x128, .bf16⟩
  | .hbm, ⟨3, _⟩ => ⟨S128x4x64x256, .bf16⟩
  | .hbm, ⟨4, _⟩ => ⟨S128x4x1x256, .f32⟩
  | .hbm, ⟨5, _⟩ => ⟨S128x4x128x256, .bf16⟩
  | .hbm, ⟨6, _⟩ => ⟨S8x128x64, .f32⟩
  | .hbm, ⟨7, _⟩ => ⟨S8x64x128, .f32⟩
  | .hbm, ⟨8, _⟩ => ⟨S8x64x128, .bf16⟩
  | .hbm, ⟨9, _⟩ => ⟨S16384x512, .bf16⟩
  | .local _ .vmem, ⟨0, _⟩ => ⟨S2048x64, .bf16⟩
  | .local _ .vmem, ⟨1, _⟩ => ⟨S2048x64, .bf16⟩
  | .local _ .vmem, ⟨2, _⟩ => ⟨S2048x128, .bf16⟩
  | .local _ .vmem, ⟨3, _⟩ => ⟨S2048x128, .bf16⟩
  | .local _ .vmem, ⟨4, _⟩ => ⟨S16x128x128, .bf16⟩
  | .local _ .vmem, ⟨5, _⟩ => ⟨S16x128x128, .bf16⟩
  | .local _ .vmem, ⟨6, _⟩ => ⟨S1x4x64x256, .bf16⟩
  | .local _ .vmem, ⟨7, _⟩ => ⟨S1x4x64x256, .bf16⟩
  | .local _ .vmem, ⟨8, _⟩ => ⟨S1x4x1x256, .f32⟩
  | .local _ .vmem, ⟨9, _⟩ => ⟨S1x4x1x256, .f32⟩
  | .local _ .vmem, ⟨10, _⟩ => ⟨S1x4x128x256, .bf16⟩
  | .local _ .vmem, ⟨11, _⟩ => ⟨S1x4x128x256, .bf16⟩
  | .local _ .vmem, ⟨12, _⟩ => ⟨S8x64x128, .bf16⟩
  | .local _ .vmem, ⟨13, _⟩ => ⟨S128x512, .bf16⟩
  | .local _ .vmem, ⟨14, _⟩ => ⟨S128x512, .bf16⟩
  | .local _ .vmem, ⟨15, _⟩ => ⟨S2048x128, .f32⟩
  | .local _ .vmem, ⟨16, _⟩ => ⟨S2048x128, .bf16⟩
  | .local _ .vmem, ⟨17, _⟩ => ⟨S4x128x256, .f32⟩
  | .local _ .vmem, ⟨18, _⟩ => ⟨S4x256x256, .f32⟩
  | .local _ .vmem, ⟨19, _⟩ => ⟨S256x128, .f32⟩
  | _, _ => ⟨S16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![8, 16], ![false, false]⟩

@[reducible] def k0_t1_loop (i : grid0.Coords) : Scf.Loop 32 :=
  let c0_i32_6 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v23 : BitVec 32 := Scalar.subi v17 c0_i32_6
  let c1_i32_7 : BitVec 32 := 1#32
  let v25 : BitVec 32 := Scalar.divsi v23 c1_i32_7
  let v26 : BitVec 32 := Scalar.muli v25 c1_i32_7
  let v27 : BitVec 32 := Scalar.addi c0_i32_6 v26
  let c1_i32_8 : BitVec 32 := 1#32
  ⟨c0_i32_6, v27, c1_i32_8⟩
def k0_mult1 (i : grid0.Coords) (k0_t1 : Fin (k0_t1_loop i).trips) : BitVec 32 :=
  let c0_i32_6 : BitVec 32 := 0#32
  let c1_i32_8 : BitVec 32 := 1#32
  let arg15 : BitVec 32 := Scf.iv c0_i32_6 c1_i32_8 k0_t1
  let c256_i32 : BitVec 32 := 256#32
  let v183 : BitVec 32 := Scalar.muli arg15 c256_i32
  v183
def k0_off1 (i : grid0.Coords) (k0_t1 : Fin (k0_t1_loop i).trips) : Fin 2 → Nat :=
  let c0_i32_6 : BitVec 32 := 0#32
  let c1_i32_8 : BitVec 32 := 1#32
  let arg15 : BitVec 32 := Scf.iv c0_i32_6 c1_i32_8 k0_t1
  let c256_i32 : BitVec 32 := 256#32
  let v183 : BitVec 32 := Scalar.muli arg15 c256_i32
  let v184 : BitVec 32 := v183
  let v185 : Index := Scalar.indexCast v184
  let c0_117 : Index := 0#32
  ![v185.toNat, 0]
def k0_off2 (i : grid0.Coords) (k0_t1 : Fin (k0_t1_loop i).trips) : Fin 2 → Nat :=
  let c0_i32_6 : BitVec 32 := 0#32
  let c1_i32_8 : BitVec 32 := 1#32
  let arg15 : BitVec 32 := Scf.iv c0_i32_6 c1_i32_8 k0_t1
  let c256_i32 : BitVec 32 := 256#32
  let v183 : BitVec 32 := Scalar.muli arg15 c256_i32
  let v184 : BitVec 32 := v183
  let v247 : Index := Scalar.indexCast v184
  let c0_161 : Index := 0#32
  ![v247.toNat, 0]
@[reducible] def k0_t2_loop (i : grid0.Coords) : Scf.Loop 32 :=
  let c0_i32_6 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v23 : BitVec 32 := Scalar.subi v17 c0_i32_6
  let c1_i32_7 : BitVec 32 := 1#32
  let v25 : BitVec 32 := Scalar.divsi v23 c1_i32_7
  let v26 : BitVec 32 := Scalar.muli v25 c1_i32_7
  let v27 : BitVec 32 := Scalar.addi c0_i32_6 v26
  let v24 : BitVec 32 := Scalar.addi c0_i32_6 v23
  let c1_i32_9 : BitVec 32 := 1#32
  ⟨v27, v24, c1_i32_9⟩
def k0_mult2 (i : grid0.Coords) (k0_t2 : Fin (k0_t2_loop i).trips) : BitVec 32 :=
  let c0_i32_6 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v23 : BitVec 32 := Scalar.subi v17 c0_i32_6
  let c1_i32_7 : BitVec 32 := 1#32
  let v25 : BitVec 32 := Scalar.divsi v23 c1_i32_7
  let v26 : BitVec 32 := Scalar.muli v25 c1_i32_7
  let v27 : BitVec 32 := Scalar.addi c0_i32_6 v26
  let c1_i32_9 : BitVec 32 := 1#32
  let arg15 : BitVec 32 := Scf.iv v27 c1_i32_9 k0_t2
  let c256_i32 : BitVec 32 := 256#32
  let v183 : BitVec 32 := Scalar.muli arg15 c256_i32
  v183
def k0_off3 (i : grid0.Coords) (k0_t2 : Fin (k0_t2_loop i).trips) : Fin 2 → Nat :=
  let c0_i32_6 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v23 : BitVec 32 := Scalar.subi v17 c0_i32_6
  let c1_i32_7 : BitVec 32 := 1#32
  let v25 : BitVec 32 := Scalar.divsi v23 c1_i32_7
  let v26 : BitVec 32 := Scalar.muli v25 c1_i32_7
  let v27 : BitVec 32 := Scalar.addi c0_i32_6 v26
  let c1_i32_9 : BitVec 32 := 1#32
  let arg15 : BitVec 32 := Scf.iv v27 c1_i32_9 k0_t2
  let c256_i32 : BitVec 32 := 256#32
  let v183 : BitVec 32 := Scalar.muli arg15 c256_i32
  let v184 : BitVec 32 := v183
  let v185 : Index := Scalar.indexCast v184
  let c0_117 : Index := 0#32
  ![v185.toNat, 0]
def k0_off4 (i : grid0.Coords) (k0_t2 : Fin (k0_t2_loop i).trips) : Fin 2 → Nat :=
  let c0_i32_6 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v23 : BitVec 32 := Scalar.subi v17 c0_i32_6
  let c1_i32_7 : BitVec 32 := 1#32
  let v25 : BitVec 32 := Scalar.divsi v23 c1_i32_7
  let v26 : BitVec 32 := Scalar.muli v25 c1_i32_7
  let v27 : BitVec 32 := Scalar.addi c0_i32_6 v26
  let c1_i32_9 : BitVec 32 := 1#32
  let arg15 : BitVec 32 := Scf.iv v27 c1_i32_9 k0_t2
  let c256_i32 : BitVec 32 := 256#32
  let v183 : BitVec 32 := Scalar.muli arg15 c256_i32
  let v184 : BitVec 32 := v183
  let v247 : Index := Scalar.indexCast v184
  let c0_161 : Index := 0#32
  ![v247.toNat, 0]
@[reducible] def k0_t3_loop : Scf.Loop 32 :=
  let c0_i32_12 : BitVec 32 := 0#32
  let c16_i32 : BitVec 32 := 16#32
  let v31 : BitVec 32 := Scalar.addi c0_i32_12 c16_i32
  let c1_i32_13 : BitVec 32 := 1#32
  ⟨c0_i32_12, v31, c1_i32_13⟩
@[reducible] def k0_t4_loop (i : grid0.Coords) : Scf.Loop 32 :=
  let c0_i32_122 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v205 : BitVec 32 := Scalar.subi v17 c0_i32_122
  let c1_i32_123 : BitVec 32 := 1#32
  let v207 : BitVec 32 := Scalar.divsi v205 c1_i32_123
  let v208 : BitVec 32 := Scalar.muli v207 c1_i32_123
  let v209 : BitVec 32 := Scalar.addi c0_i32_122 v208
  let c1_i32_124 : BitVec 32 := 1#32
  ⟨c0_i32_122, v209, c1_i32_124⟩
def k0_mult3 (i : grid0.Coords) (k0_t4 : Fin (k0_t4_loop i).trips) : BitVec 32 :=
  let c0_i32_122 : BitVec 32 := 0#32
  let c1_i32_124 : BitVec 32 := 1#32
  let arg17 : BitVec 32 := Scf.iv c0_i32_122 c1_i32_124 k0_t4
  let c256_i32 : BitVec 32 := 256#32
  let v217 : BitVec 32 := Scalar.muli arg17 c256_i32
  v217
def k0_off5 (i : grid0.Coords) (k0_t4 : Fin (k0_t4_loop i).trips) : Fin 2 → Nat :=
  let c0_i32_122 : BitVec 32 := 0#32
  let c1_i32_124 : BitVec 32 := 1#32
  let arg17 : BitVec 32 := Scf.iv c0_i32_122 c1_i32_124 k0_t4
  let c256_i32 : BitVec 32 := 256#32
  let v217 : BitVec 32 := Scalar.muli arg17 c256_i32
  let v218 : BitVec 32 := v217
  let v219 : Index := Scalar.indexCast v218
  let c0_127 : Index := 0#32
  ![v219.toNat, 0]
@[reducible] def k0_t5_loop (i : grid0.Coords) : Scf.Loop 32 :=
  let c0_i32_122 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v205 : BitVec 32 := Scalar.subi v17 c0_i32_122
  let c1_i32_123 : BitVec 32 := 1#32
  let v207 : BitVec 32 := Scalar.divsi v205 c1_i32_123
  let v208 : BitVec 32 := Scalar.muli v207 c1_i32_123
  let v209 : BitVec 32 := Scalar.addi c0_i32_122 v208
  let v206 : BitVec 32 := Scalar.addi c0_i32_122 v205
  let c1_i32_125 : BitVec 32 := 1#32
  ⟨v209, v206, c1_i32_125⟩
def k0_mult4 (i : grid0.Coords) (k0_t5 : Fin (k0_t5_loop i).trips) : BitVec 32 :=
  let c0_i32_122 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v205 : BitVec 32 := Scalar.subi v17 c0_i32_122
  let c1_i32_123 : BitVec 32 := 1#32
  let v207 : BitVec 32 := Scalar.divsi v205 c1_i32_123
  let v208 : BitVec 32 := Scalar.muli v207 c1_i32_123
  let v209 : BitVec 32 := Scalar.addi c0_i32_122 v208
  let c1_i32_125 : BitVec 32 := 1#32
  let arg17 : BitVec 32 := Scf.iv v209 c1_i32_125 k0_t5
  let c256_i32 : BitVec 32 := 256#32
  let v217 : BitVec 32 := Scalar.muli arg17 c256_i32
  v217
def k0_off6 (i : grid0.Coords) (k0_t5 : Fin (k0_t5_loop i).trips) : Fin 2 → Nat :=
  let c0_i32_122 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v205 : BitVec 32 := Scalar.subi v17 c0_i32_122
  let c1_i32_123 : BitVec 32 := 1#32
  let v207 : BitVec 32 := Scalar.divsi v205 c1_i32_123
  let v208 : BitVec 32 := Scalar.muli v207 c1_i32_123
  let v209 : BitVec 32 := Scalar.addi c0_i32_122 v208
  let c1_i32_125 : BitVec 32 := 1#32
  let arg17 : BitVec 32 := Scf.iv v209 c1_i32_125 k0_t5
  let c256_i32 : BitVec 32 := 256#32
  let v217 : BitVec 32 := Scalar.muli arg17 c256_i32
  let v218 : BitVec 32 := v217
  let v219 : Index := Scalar.indexCast v218
  let c0_127 : Index := 0#32
  ![v219.toNat, 0]
@[reducible] def k0_t6_loop : Scf.Loop 32 :=
  let c16_i32_16 : BitVec 32 := 16#32
  let c16_i32_17 : BitVec 32 := 16#32
  let v33 : BitVec 32 := Scalar.addi c16_i32_16 c16_i32_17
  let c1_i32_18 : BitVec 32 := 1#32
  ⟨c16_i32_16, v33, c1_i32_18⟩
@[reducible] def k0_t7_loop (i : grid0.Coords) : Scf.Loop 32 :=
  let c0_i32_124 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v204 : BitVec 32 := Scalar.subi v17 c0_i32_124
  let c1_i32_125 : BitVec 32 := 1#32
  let v206 : BitVec 32 := Scalar.divsi v204 c1_i32_125
  let v207 : BitVec 32 := Scalar.muli v206 c1_i32_125
  let v208 : BitVec 32 := Scalar.addi c0_i32_124 v207
  let c1_i32_126 : BitVec 32 := 1#32
  ⟨c0_i32_124, v208, c1_i32_126⟩
def k0_mult5 (i : grid0.Coords) (k0_t7 : Fin (k0_t7_loop i).trips) : BitVec 32 :=
  let c0_i32_124 : BitVec 32 := 0#32
  let c1_i32_126 : BitVec 32 := 1#32
  let arg17 : BitVec 32 := Scf.iv c0_i32_124 c1_i32_126 k0_t7
  let c256_i32 : BitVec 32 := 256#32
  let v216 : BitVec 32 := Scalar.muli arg17 c256_i32
  v216
def k0_off7 (i : grid0.Coords) (k0_t7 : Fin (k0_t7_loop i).trips) : Fin 2 → Nat :=
  let c0_i32_124 : BitVec 32 := 0#32
  let c1_i32_126 : BitVec 32 := 1#32
  let arg17 : BitVec 32 := Scf.iv c0_i32_124 c1_i32_126 k0_t7
  let c256_i32 : BitVec 32 := 256#32
  let v216 : BitVec 32 := Scalar.muli arg17 c256_i32
  let v217 : BitVec 32 := v216
  let v218 : Index := Scalar.indexCast v217
  let c0_129 : Index := 0#32
  ![v218.toNat, 0]
@[reducible] def k0_t8_loop (i : grid0.Coords) : Scf.Loop 32 :=
  let c0_i32_124 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v204 : BitVec 32 := Scalar.subi v17 c0_i32_124
  let c1_i32_125 : BitVec 32 := 1#32
  let v206 : BitVec 32 := Scalar.divsi v204 c1_i32_125
  let v207 : BitVec 32 := Scalar.muli v206 c1_i32_125
  let v208 : BitVec 32 := Scalar.addi c0_i32_124 v207
  let v205 : BitVec 32 := Scalar.addi c0_i32_124 v204
  let c1_i32_127 : BitVec 32 := 1#32
  ⟨v208, v205, c1_i32_127⟩
def k0_mult6 (i : grid0.Coords) (k0_t8 : Fin (k0_t8_loop i).trips) : BitVec 32 :=
  let c0_i32_124 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v204 : BitVec 32 := Scalar.subi v17 c0_i32_124
  let c1_i32_125 : BitVec 32 := 1#32
  let v206 : BitVec 32 := Scalar.divsi v204 c1_i32_125
  let v207 : BitVec 32 := Scalar.muli v206 c1_i32_125
  let v208 : BitVec 32 := Scalar.addi c0_i32_124 v207
  let c1_i32_127 : BitVec 32 := 1#32
  let arg17 : BitVec 32 := Scf.iv v208 c1_i32_127 k0_t8
  let c256_i32 : BitVec 32 := 256#32
  let v216 : BitVec 32 := Scalar.muli arg17 c256_i32
  v216
def k0_off8 (i : grid0.Coords) (k0_t8 : Fin (k0_t8_loop i).trips) : Fin 2 → Nat :=
  let c0_i32_124 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v204 : BitVec 32 := Scalar.subi v17 c0_i32_124
  let c1_i32_125 : BitVec 32 := 1#32
  let v206 : BitVec 32 := Scalar.divsi v204 c1_i32_125
  let v207 : BitVec 32 := Scalar.muli v206 c1_i32_125
  let v208 : BitVec 32 := Scalar.addi c0_i32_124 v207
  let c1_i32_127 : BitVec 32 := 1#32
  let arg17 : BitVec 32 := Scf.iv v208 c1_i32_127 k0_t8
  let c256_i32 : BitVec 32 := 256#32
  let v216 : BitVec 32 := Scalar.muli arg17 c256_i32
  let v217 : BitVec 32 := v216
  let v218 : Index := Scalar.indexCast v217
  let c0_129 : Index := 0#32
  ![v218.toNat, 0]
@[reducible] def k0_t9_loop (i : grid0.Coords) : Scf.Loop 32 :=
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v48 : BitVec 32 := Scalar.subi v17 c0_i32_23
  let c1_i32_24 : BitVec 32 := 1#32
  let v50 : BitVec 32 := Scalar.divsi v48 c1_i32_24
  let v51 : BitVec 32 := Scalar.muli v50 c1_i32_24
  let v52 : BitVec 32 := Scalar.addi c0_i32_23 v51
  let c1_i32_25 : BitVec 32 := 1#32
  ⟨c0_i32_23, v52, c1_i32_25⟩
def k0_mult7 (i : grid0.Coords) (k0_t9 : Fin (k0_t9_loop i).trips) : BitVec 32 :=
  let c0_i32_23 : BitVec 32 := 0#32
  let c1_i32_25 : BitVec 32 := 1#32
  let arg15 : BitVec 32 := Scf.iv c0_i32_23 c1_i32_25 k0_t9
  let c256_i32 : BitVec 32 := 256#32
  let v183 : BitVec 32 := Scalar.muli arg15 c256_i32
  v183
def k0_off9 (i : grid0.Coords) (k0_t9 : Fin (k0_t9_loop i).trips) : Fin 2 → Nat :=
  let c0_i32_23 : BitVec 32 := 0#32
  let c1_i32_25 : BitVec 32 := 1#32
  let arg15 : BitVec 32 := Scf.iv c0_i32_23 c1_i32_25 k0_t9
  let c256_i32 : BitVec 32 := 256#32
  let v183 : BitVec 32 := Scalar.muli arg15 c256_i32
  let v184 : BitVec 32 := v183
  let v185 : Index := Scalar.indexCast v184
  let c0_117 : Index := 0#32
  ![v185.toNat, 0]
@[reducible] def k0_t10_loop (i : grid0.Coords) : Scf.Loop 32 :=
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v48 : BitVec 32 := Scalar.subi v17 c0_i32_23
  let c1_i32_24 : BitVec 32 := 1#32
  let v50 : BitVec 32 := Scalar.divsi v48 c1_i32_24
  let v51 : BitVec 32 := Scalar.muli v50 c1_i32_24
  let v52 : BitVec 32 := Scalar.addi c0_i32_23 v51
  let v49 : BitVec 32 := Scalar.addi c0_i32_23 v48
  let c1_i32_26 : BitVec 32 := 1#32
  ⟨v52, v49, c1_i32_26⟩
def k0_mult8 (i : grid0.Coords) (k0_t10 : Fin (k0_t10_loop i).trips) : BitVec 32 :=
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v48 : BitVec 32 := Scalar.subi v17 c0_i32_23
  let c1_i32_24 : BitVec 32 := 1#32
  let v50 : BitVec 32 := Scalar.divsi v48 c1_i32_24
  let v51 : BitVec 32 := Scalar.muli v50 c1_i32_24
  let v52 : BitVec 32 := Scalar.addi c0_i32_23 v51
  let c1_i32_26 : BitVec 32 := 1#32
  let arg15 : BitVec 32 := Scf.iv v52 c1_i32_26 k0_t10
  let c256_i32 : BitVec 32 := 256#32
  let v183 : BitVec 32 := Scalar.muli arg15 c256_i32
  v183
def k0_off10 (i : grid0.Coords) (k0_t10 : Fin (k0_t10_loop i).trips) : Fin 2 → Nat :=
  let c0_i32_23 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v48 : BitVec 32 := Scalar.subi v17 c0_i32_23
  let c1_i32_24 : BitVec 32 := 1#32
  let v50 : BitVec 32 := Scalar.divsi v48 c1_i32_24
  let v51 : BitVec 32 := Scalar.muli v50 c1_i32_24
  let v52 : BitVec 32 := Scalar.addi c0_i32_23 v51
  let c1_i32_26 : BitVec 32 := 1#32
  let arg15 : BitVec 32 := Scf.iv v52 c1_i32_26 k0_t10
  let c256_i32 : BitVec 32 := 256#32
  let v183 : BitVec 32 := Scalar.muli arg15 c256_i32
  let v184 : BitVec 32 := v183
  let v185 : Index := Scalar.indexCast v184
  let c0_117 : Index := 0#32
  ![v185.toNat, 0]
@[reducible] def k0_t11_loop (i : grid0.Coords) : Scf.Loop 32 :=
  let c0_i32_118 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v186 : BitVec 32 := Scalar.subi v17 c0_i32_118
  let c1_i32_119 : BitVec 32 := 1#32
  let v188 : BitVec 32 := Scalar.divsi v186 c1_i32_119
  let v189 : BitVec 32 := Scalar.muli v188 c1_i32_119
  let v190 : BitVec 32 := Scalar.addi c0_i32_118 v189
  let c1_i32_120 : BitVec 32 := 1#32
  ⟨c0_i32_118, v190, c1_i32_120⟩
def k0_mult9 (i : grid0.Coords) (k0_t11 : Fin (k0_t11_loop i).trips) : BitVec 32 :=
  let c0_i32_118 : BitVec 32 := 0#32
  let c1_i32_120 : BitVec 32 := 1#32
  let arg15 : BitVec 32 := Scf.iv c0_i32_118 c1_i32_120 k0_t11
  let c256_i32 : BitVec 32 := 256#32
  let v211 : BitVec 32 := Scalar.muli arg15 c256_i32
  v211
def k0_off11 (i : grid0.Coords) (k0_t11 : Fin (k0_t11_loop i).trips) : Fin 2 → Nat :=
  let c0_i32_118 : BitVec 32 := 0#32
  let c1_i32_120 : BitVec 32 := 1#32
  let arg15 : BitVec 32 := Scf.iv c0_i32_118 c1_i32_120 k0_t11
  let c256_i32 : BitVec 32 := 256#32
  let v211 : BitVec 32 := Scalar.muli arg15 c256_i32
  let v212 : BitVec 32 := v211
  let v213 : Index := Scalar.indexCast v212
  let c0_128 : Index := 0#32
  ![v213.toNat, 0]
@[reducible] def k0_t12_loop (i : grid0.Coords) : Scf.Loop 32 :=
  let c0_i32_118 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v186 : BitVec 32 := Scalar.subi v17 c0_i32_118
  let c1_i32_119 : BitVec 32 := 1#32
  let v188 : BitVec 32 := Scalar.divsi v186 c1_i32_119
  let v189 : BitVec 32 := Scalar.muli v188 c1_i32_119
  let v190 : BitVec 32 := Scalar.addi c0_i32_118 v189
  let v187 : BitVec 32 := Scalar.addi c0_i32_118 v186
  let c1_i32_121 : BitVec 32 := 1#32
  ⟨v190, v187, c1_i32_121⟩
def k0_mult10 (i : grid0.Coords) (k0_t12 : Fin (k0_t12_loop i).trips) : BitVec 32 :=
  let c0_i32_118 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v186 : BitVec 32 := Scalar.subi v17 c0_i32_118
  let c1_i32_119 : BitVec 32 := 1#32
  let v188 : BitVec 32 := Scalar.divsi v186 c1_i32_119
  let v189 : BitVec 32 := Scalar.muli v188 c1_i32_119
  let v190 : BitVec 32 := Scalar.addi c0_i32_118 v189
  let c1_i32_121 : BitVec 32 := 1#32
  let arg15 : BitVec 32 := Scf.iv v190 c1_i32_121 k0_t12
  let c256_i32 : BitVec 32 := 256#32
  let v211 : BitVec 32 := Scalar.muli arg15 c256_i32
  v211
def k0_off12 (i : grid0.Coords) (k0_t12 : Fin (k0_t12_loop i).trips) : Fin 2 → Nat :=
  let c0_i32_118 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v186 : BitVec 32 := Scalar.subi v17 c0_i32_118
  let c1_i32_119 : BitVec 32 := 1#32
  let v188 : BitVec 32 := Scalar.divsi v186 c1_i32_119
  let v189 : BitVec 32 := Scalar.muli v188 c1_i32_119
  let v190 : BitVec 32 := Scalar.addi c0_i32_118 v189
  let c1_i32_121 : BitVec 32 := 1#32
  let arg15 : BitVec 32 := Scf.iv v190 c1_i32_121 k0_t12
  let c256_i32 : BitVec 32 := 256#32
  let v211 : BitVec 32 := Scalar.muli arg15 c256_i32
  let v212 : BitVec 32 := v211
  let v213 : Index := Scalar.indexCast v212
  let c0_128 : Index := 0#32
  ![v213.toNat, 0]
@[reducible] def k0_t13_loop (i : grid0.Coords) : Scf.Loop 32 :=
  let c0_i32_124 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v204 : BitVec 32 := Scalar.subi v17 c0_i32_124
  let c1_i32_125 : BitVec 32 := 1#32
  let v206 : BitVec 32 := Scalar.divsi v204 c1_i32_125
  let v207 : BitVec 32 := Scalar.muli v206 c1_i32_125
  let v208 : BitVec 32 := Scalar.addi c0_i32_124 v207
  let c1_i32_126 : BitVec 32 := 1#32
  ⟨c0_i32_124, v208, c1_i32_126⟩
def k0_mult11 (i : grid0.Coords) (k0_t13 : Fin (k0_t13_loop i).trips) : BitVec 32 :=
  let c0_i32_124 : BitVec 32 := 0#32
  let c1_i32_126 : BitVec 32 := 1#32
  let arg15 : BitVec 32 := Scf.iv c0_i32_124 c1_i32_126 k0_t13
  let c256_i32 : BitVec 32 := 256#32
  let v211 : BitVec 32 := Scalar.muli arg15 c256_i32
  v211
def k0_off13 (i : grid0.Coords) (k0_t13 : Fin (k0_t13_loop i).trips) : Fin 2 → Nat :=
  let c0_i32_124 : BitVec 32 := 0#32
  let c1_i32_126 : BitVec 32 := 1#32
  let arg15 : BitVec 32 := Scf.iv c0_i32_124 c1_i32_126 k0_t13
  let c256_i32 : BitVec 32 := 256#32
  let v211 : BitVec 32 := Scalar.muli arg15 c256_i32
  let v212 : BitVec 32 := v211
  let v213 : Index := Scalar.indexCast v212
  let c0_128 : Index := 0#32
  ![v213.toNat, 0]
@[reducible] def k0_t14_loop (i : grid0.Coords) : Scf.Loop 32 :=
  let c0_i32_124 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v204 : BitVec 32 := Scalar.subi v17 c0_i32_124
  let c1_i32_125 : BitVec 32 := 1#32
  let v206 : BitVec 32 := Scalar.divsi v204 c1_i32_125
  let v207 : BitVec 32 := Scalar.muli v206 c1_i32_125
  let v208 : BitVec 32 := Scalar.addi c0_i32_124 v207
  let v205 : BitVec 32 := Scalar.addi c0_i32_124 v204
  let c1_i32_127 : BitVec 32 := 1#32
  ⟨v208, v205, c1_i32_127⟩
def k0_mult12 (i : grid0.Coords) (k0_t14 : Fin (k0_t14_loop i).trips) : BitVec 32 :=
  let c0_i32_124 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v204 : BitVec 32 := Scalar.subi v17 c0_i32_124
  let c1_i32_125 : BitVec 32 := 1#32
  let v206 : BitVec 32 := Scalar.divsi v204 c1_i32_125
  let v207 : BitVec 32 := Scalar.muli v206 c1_i32_125
  let v208 : BitVec 32 := Scalar.addi c0_i32_124 v207
  let c1_i32_127 : BitVec 32 := 1#32
  let arg15 : BitVec 32 := Scf.iv v208 c1_i32_127 k0_t14
  let c256_i32 : BitVec 32 := 256#32
  let v211 : BitVec 32 := Scalar.muli arg15 c256_i32
  v211
def k0_off14 (i : grid0.Coords) (k0_t14 : Fin (k0_t14_loop i).trips) : Fin 2 → Nat :=
  let c0_i32_124 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v204 : BitVec 32 := Scalar.subi v17 c0_i32_124
  let c1_i32_125 : BitVec 32 := 1#32
  let v206 : BitVec 32 := Scalar.divsi v204 c1_i32_125
  let v207 : BitVec 32 := Scalar.muli v206 c1_i32_125
  let v208 : BitVec 32 := Scalar.addi c0_i32_124 v207
  let c1_i32_127 : BitVec 32 := 1#32
  let arg15 : BitVec 32 := Scf.iv v208 c1_i32_127 k0_t14
  let c256_i32 : BitVec 32 := 256#32
  let v211 : BitVec 32 := Scalar.muli arg15 c256_i32
  let v212 : BitVec 32 := v211
  let v213 : Index := Scalar.indexCast v212
  let c0_128 : Index := 0#32
  ![v213.toNat, 0]
@[reducible] def k0_t15_loop (i : grid0.Coords) : Scf.Loop 32 :=
  let c0_i32_55 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v92 : BitVec 32 := Scalar.subi v17 c0_i32_55
  let c1_i32_56 : BitVec 32 := 1#32
  let v94 : BitVec 32 := Scalar.divsi v92 c1_i32_56
  let v95 : BitVec 32 := Scalar.muli v94 c1_i32_56
  let v96 : BitVec 32 := Scalar.addi c0_i32_55 v95
  let c1_i32_57 : BitVec 32 := 1#32
  ⟨c0_i32_55, v96, c1_i32_57⟩
def k0_mult13 (i : grid0.Coords) (k0_t15 : Fin (k0_t15_loop i).trips) : BitVec 32 :=
  let c0_i32_55 : BitVec 32 := 0#32
  let c1_i32_57 : BitVec 32 := 1#32
  let arg15 : BitVec 32 := Scf.iv c0_i32_55 c1_i32_57 k0_t15
  let c256_i32 : BitVec 32 := 256#32
  let v183 : BitVec 32 := Scalar.muli arg15 c256_i32
  v183
def k0_off15 (i : grid0.Coords) (k0_t15 : Fin (k0_t15_loop i).trips) : Fin 2 → Nat :=
  let c0_i32_55 : BitVec 32 := 0#32
  let c1_i32_57 : BitVec 32 := 1#32
  let arg15 : BitVec 32 := Scf.iv c0_i32_55 c1_i32_57 k0_t15
  let c256_i32 : BitVec 32 := 256#32
  let v183 : BitVec 32 := Scalar.muli arg15 c256_i32
  let v184 : BitVec 32 := v183
  let v185 : Index := Scalar.indexCast v184
  let c0_117 : Index := 0#32
  ![v185.toNat, 0]
def k0_off16 (i : grid0.Coords) (k0_t15 : Fin (k0_t15_loop i).trips) : Fin 3 → Nat :=
  let c2_i32_118 : BitVec 32 := 2#32
  let c0_i32_55 : BitVec 32 := 0#32
  let c1_i32_57 : BitVec 32 := 1#32
  let arg15 : BitVec 32 := Scf.iv c0_i32_55 c1_i32_57 k0_t15
  let v187 : BitVec 32 := Scalar.muli c2_i32_118 arg15
  let v188 : Index := Scalar.indexCast v187
  let c0_119 : Index := 0#32
  let c0_120 : Index := 0#32
  ![v188.toNat, 0, 0]
def k0_off17 (i : grid0.Coords) (k0_t15 : Fin (k0_t15_loop i).trips) : Fin 3 → Nat :=
  let c2_i32_121 : BitVec 32 := 2#32
  let c0_i32_55 : BitVec 32 := 0#32
  let c1_i32_57 : BitVec 32 := 1#32
  let arg15 : BitVec 32 := Scf.iv c0_i32_55 c1_i32_57 k0_t15
  let v191 : BitVec 32 := Scalar.muli c2_i32_121 arg15
  let c1_i32_122 : BitVec 32 := 1#32
  let v192 : BitVec 32 := Scalar.addi v191 c1_i32_122
  let v193 : Index := Scalar.indexCast v192
  let c0_123 : Index := 0#32
  let c0_124 : Index := 0#32
  ![v193.toNat, 0, 0]
@[reducible] def k0_t16_loop (i : grid0.Coords) : Scf.Loop 32 :=
  let c0_i32_55 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v92 : BitVec 32 := Scalar.subi v17 c0_i32_55
  let c1_i32_56 : BitVec 32 := 1#32
  let v94 : BitVec 32 := Scalar.divsi v92 c1_i32_56
  let v95 : BitVec 32 := Scalar.muli v94 c1_i32_56
  let v96 : BitVec 32 := Scalar.addi c0_i32_55 v95
  let v93 : BitVec 32 := Scalar.addi c0_i32_55 v92
  let c1_i32_58 : BitVec 32 := 1#32
  ⟨v96, v93, c1_i32_58⟩
def k0_mult14 (i : grid0.Coords) (k0_t16 : Fin (k0_t16_loop i).trips) : BitVec 32 :=
  let c0_i32_55 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v92 : BitVec 32 := Scalar.subi v17 c0_i32_55
  let c1_i32_56 : BitVec 32 := 1#32
  let v94 : BitVec 32 := Scalar.divsi v92 c1_i32_56
  let v95 : BitVec 32 := Scalar.muli v94 c1_i32_56
  let v96 : BitVec 32 := Scalar.addi c0_i32_55 v95
  let c1_i32_58 : BitVec 32 := 1#32
  let arg15 : BitVec 32 := Scf.iv v96 c1_i32_58 k0_t16
  let c256_i32 : BitVec 32 := 256#32
  let v183 : BitVec 32 := Scalar.muli arg15 c256_i32
  v183
def k0_off18 (i : grid0.Coords) (k0_t16 : Fin (k0_t16_loop i).trips) : Fin 2 → Nat :=
  let c0_i32_55 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v92 : BitVec 32 := Scalar.subi v17 c0_i32_55
  let c1_i32_56 : BitVec 32 := 1#32
  let v94 : BitVec 32 := Scalar.divsi v92 c1_i32_56
  let v95 : BitVec 32 := Scalar.muli v94 c1_i32_56
  let v96 : BitVec 32 := Scalar.addi c0_i32_55 v95
  let c1_i32_58 : BitVec 32 := 1#32
  let arg15 : BitVec 32 := Scf.iv v96 c1_i32_58 k0_t16
  let c256_i32 : BitVec 32 := 256#32
  let v183 : BitVec 32 := Scalar.muli arg15 c256_i32
  let v184 : BitVec 32 := v183
  let v185 : Index := Scalar.indexCast v184
  let c0_117 : Index := 0#32
  ![v185.toNat, 0]
def k0_off19 (i : grid0.Coords) (k0_t16 : Fin (k0_t16_loop i).trips) : Fin 3 → Nat :=
  let c2_i32_118 : BitVec 32 := 2#32
  let c0_i32_55 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v92 : BitVec 32 := Scalar.subi v17 c0_i32_55
  let c1_i32_56 : BitVec 32 := 1#32
  let v94 : BitVec 32 := Scalar.divsi v92 c1_i32_56
  let v95 : BitVec 32 := Scalar.muli v94 c1_i32_56
  let v96 : BitVec 32 := Scalar.addi c0_i32_55 v95
  let c1_i32_58 : BitVec 32 := 1#32
  let arg15 : BitVec 32 := Scf.iv v96 c1_i32_58 k0_t16
  let v187 : BitVec 32 := Scalar.muli c2_i32_118 arg15
  let v188 : Index := Scalar.indexCast v187
  let c0_119 : Index := 0#32
  let c0_120 : Index := 0#32
  ![v188.toNat, 0, 0]
def k0_off20 (i : grid0.Coords) (k0_t16 : Fin (k0_t16_loop i).trips) : Fin 3 → Nat :=
  let c2_i32_121 : BitVec 32 := 2#32
  let c0_i32_55 : BitVec 32 := 0#32
  let arg1 : BitVec 32 := BitVec.ofNat 32 (i 1).val
  let c2_i32 : BitVec 32 := 2#32
  let v0 : BitVec 32 := Scalar.addi arg1 c2_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c2_i32_0 : BitVec 32 := 2#32
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi v0 c2_i32_0
  let c0_i32_4 : BitVec 32 := 0#32
  let v14 : BitVec 1 := Scalar.cmpi .ne v13 c0_i32_4
  let v15 : BitVec 1 := Scalar.andi v12 v14
  let v1 : BitVec 32 := Scalar.divsi v0 c2_i32_0
  let c1_i32 : BitVec 32 := 1#32
  let v16 : BitVec 32 := Scalar.subi v1 c1_i32
  let v17 : BitVec 32 := Scalar.select v15 v16 v1
  let v92 : BitVec 32 := Scalar.subi v17 c0_i32_55
  let c1_i32_56 : BitVec 32 := 1#32
  let v94 : BitVec 32 := Scalar.divsi v92 c1_i32_56
  let v95 : BitVec 32 := Scalar.muli v94 c1_i32_56
  let v96 : BitVec 32 := Scalar.addi c0_i32_55 v95
  let c1_i32_58 : BitVec 32 := 1#32
  let arg15 : BitVec 32 := Scf.iv v96 c1_i32_58 k0_t16
  let v191 : BitVec 32 := Scalar.muli c2_i32_121 arg15
  let c1_i32_122 : BitVec 32 := 1#32
  let v192 : BitVec 32 := Scalar.addi v191 c1_i32_122
  let v193 : Index := Scalar.indexCast v192
  let c0_123 : Index := 0#32
  let c0_124 : Index := 0#32
  ![v193.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.RetLoop.lean ====
/-
  What the retention kernel's body leaves in its output block. The body walks the 16 chunks of 128 rows of a
  sequence, carrying a 128×128 state (two heads of 64 lanes); each trip stores one chunk of the output block.
  Here the loop is read: the state before chunk `k` is `chunkState … k`, the rows stored by trip `k` are
  `chunkOut … k`, and the whole block is `blockOut` (`out_block`).
-/
module

public import proofs.«01_k».proof.Proof.Gen.KernelIdeal.Value
public import Idealize.ShloMosaic.Lib.Pointwise

@[expose] public section

set_option maxRecDepth 16384

noncomputable section

open Idealize.ShloMosaic Idealize.ShloMosaic.TcCoe Idealize.SL.Sem

namespace Cert.Proof.Ret

open Cert.KernelIdeal Cert.KernelIdeal.Gen

variable {F : FTy → Type} [FloatOps F]

/-- Row `128 k + r` of a block of 2048 rows (kept in range for any `k`). -/
def chunkRow (k : ℕ) (r : Fin 128) : Fin 2048 := ⟨(128 * k + r.val) % 2048, Nat.mod_lt _ (by decide)⟩

theorem chunkRow_val {k : ℕ} (hk : k < 16) (r : Fin 128) : (chunkRow k r).val = 128 * k + r.val := by
  have := r.isLt
  exact Nat.mod_eq_of_lt (by omega)

/-- Chunk `k` of a block: its rows `128 k` to `128 k + 127`. -/
def chunk (x : Vec F S2048x128 .bf16) (k : ℕ) : Vec F S128x128 .bf16 := fun y => x (ix2 (chunkRow k (y 0)) (y 1))

/-- One page of the decay block: the page of the pair's first or second head. -/
def page (x : Vec F S2x128x128 .f32) (g : Fin 2) : Vec F S1x128x128 .f32 := fun y => x (ix3 g (y 1) (y 2))

/-- The state before chunk `k`: zero before the first, then each chunk's update of it. -/
def chunkState (x1 x2 : Vec F S2048x128 .bf16) (x6 : Vec F S1x128x128 .f32) (x7 : Vec F S1x1x128 .f32) : ℕ → FVec F S128x128 .f32
  | 0 => k0_pay7
  | k + 1 => k0_pay9 x6 x7 (chunkState x1 x2 x6 x7 k) (chunk x1 k) (chunk x2 k)

/-- The rows trip `k` stores. -/
def chunkOut (x0 x1 x2 x3 : Vec F S2048x128 .bf16) (x4 : Vec F S2x128x128 .f32) (x5 x6 : Vec F S1x128x128 .f32)
    (x7 x8 x9 : Vec F S1x1x128 .f32) (k : ℕ) : FVec F S128x128 .bf16 :=
  k0_pay8 x8 x9
    (k0_pay1 k0_pay3 (k0_pay4 (page x4 0)) (k0_pay5 (page x4 1)) (k0_pay6 x5) (chunkState x1 x2 x6 x7 k) (chunk x0 k) (chunk x1 k) (chunk x2 k))
    (k0_pay2 k0_pay3 (k0_pay4 (page x4 0)) (k0_pay5 (page x4 1)) (k0_pay6 x5) (chunkState x1 x2 x6 x7 k) (chunk x0 k) (chunk x1 k) (chunk x2 k))
    (FloatOps.ofBits .f32 0#32) (chunk x3 k)

/-- The output block: at a row, what the trip of the row's chunk stores. -/
def blockOut (x0 x1 x2 x3 : Vec F S2048x128 .bf16) (x4 : Vec F S2x128x128 .f32) (x5 x6 : Vec F S1x128x128 .f32)
    (x7 x8 x9 : Vec F S1x1x128 .f32) : Vec F S2048x128 .bf16 :=
  fun y => chunkOut x0 x1 x2 x3 x4 x5 x6 x7 x8 x9 ((y 0).val / 128) (ix2 ⟨(y 0).val % 128, Nat.mod_lt _ (by decide)⟩ (y 1))

/-- Where trip `k` loads and stores: row `128 k`, lane 0. -/
theorem trip_off : ∀ k : Fin k0_t1_loop.trips, k0_off1 k = ![128 * k.val, 0] := by
  have h : ∀ k : Fin 16, BitVec.toNat (Scalar.indexCast (Scalar.muli (Scf.iv 0#32 1#32 k.val) 128#32)) = 128 * k.val := by decide
  have ht : k0_t1_loop.trips = 16 := by decide
  intro k
  have hk : k.val < 16 := ht ▸ k.isLt
  unfold k0_off1
  exact funext fun a => by
    match a with
    | ⟨0, _⟩ => exact h ⟨k.val, hk⟩
    | ⟨1, _⟩ => rfl

/-- A load of 128 rows at row `128 k` is chunk `k`. -/
theorem ld_chunk (x : Vec F S2048x128 .bf16) {k : ℕ} (hk : k < 16) (off : Fin 2 → ℕ) (hoff : off = ![128 * k, 0])
    (inb : ∀ a, off a + S128x128.size a ≤ S2048x128.size a) :
    View.ld x (Rect.unit (s := S2048x128) off S128x128.size inb) = chunk x k := by
  subst hoff
  funext y
  unfold chunk
  refine congrArg x (funext fun a => Fin.ext ?_)
  match a with
  | ⟨0, _⟩ => exact (congrArg (128 * k + ·) (Nat.one_mul (y 0).val)).trans (chunkRow_val hk (y 0)).symm
  | ⟨1, _⟩ => show 0 + 1 * (y 1).val = (y 1).val; omega

section Trips

variable (c : Dev nD) (i : grid0.Coords)
variable (a2 : Memref sig .tc .vmem S2048x128 .bf16) (h2 : a2.IsWhole) (a3 : Memref sig .tc .vmem S2048x128 .bf16) (h3 : a3.IsWhole) (a4 : Memref sig .tc .vmem S2048x128 .bf16) (h4 : a4.IsWhole) (a5 : Memref sig .tc .vmem S2048x128 .bf16) (h5 : a5.IsWhole) (a6 : Memref sig .tc .vmem S2x128x128 .f32) (h6 : a6.IsWhole) (a7 : Memref sig .tc .vmem S1x128x128 .f32) (h7 : a7.IsWhole) (a8 : Memref sig .tc .vmem S1x128x128 .f32) (h8 : a8.IsWhole) (a9 : Memref sig .tc .vmem S1x1x128 .f32) (h9 : a9.IsWhole) (a10 : Memref sig .tc .vmem S1x1x128 .f32) (h10 : a10.IsWhole) (a11 : Memref sig .tc .vmem S1x1x128 .f32) (h11 : a11.IsWhole) (a12 : Memref sig .tc .vmem S2048x128 .bf16) (h12 : a12.IsWhole)
variable (v11 v13 v15 v17 : Vec F S1x128x128 .f32) (v19 v21 v23 : Vec F S1x1x128 .f32)
variable (x0 x1 x2 x3 : Vec F S2048x128 .bf16)

/-- The rows one trip stores, from the state it finds. -/
def tripOut (acc : FVec F S128x128 .f32) (k : ℕ) : FVec F S128x128 .bf16 :=
  k0_pay8 v21 v23
    (k0_pay1 k0_pay3 (k0_pay4 v11) (k0_pay5 v13) (k0_pay6 v15) acc (chunk x0 k) (chunk x1 k) (chunk x2 k))
    (k0_pay2 k0_pay3 (k0_pay4 v11) (k0_pay5 v13) (k0_pay6 v15) acc (chunk x0 k) (chunk x1 k) (chunk x2 k))
    (FloatOps.ofBits .f32 0#32) (chunk x3 k)

/-- The rectangle trip `k` stores to. -/
abbrev tripRect (k : Fin k0_t1_loop.trips) : Rect S2048x128 := Rect.unit (k0_off1 k) S128x128.size (k0_off1_inb k)

theorem trips_eq : k0_t1_loop.trips = 16 := by decide

/-- What a trip hands the next. -/
theorem trip_state (k : Fin k0_t1_loop.trips) (acc : FVec F S128x128 .f32) :
    tripR_k0_t1 (F := F) Variants.none c none i a2 h2 a3 h3 a4 h4 a5 h5 a6 h6 a7 h7 a8 h8 a9 h9 a10 h10 a11 h11 a12 h12 v11 v13 v15 v17 v19 v21 v23
      (h2.unread x0) (h3.unread x1) (h4.unread x2) (h5.unread x3) k acc
      = k0_pay9 v17 v19 acc (chunk x1 k.val) (chunk x2 k.val) := by
  have hk : k.val < 16 := trips_eq ▸ k.isLt
  unfold tripR_k0_t1 trip_k0_t1
  dsimp only
  sl_unfold_words
  simp only [View.readAt_eq_ld, h3.read_unread, h4.read_unread]
  rw [← ld_chunk x1 hk _ (trip_off k) (k0_off1_inb k), ← ld_chunk x2 hk _ (trip_off k) (k0_off1_inb k)]
  rfl

/-- What a trip stores. -/
theorem trip_store (k : Fin k0_t1_loop.trips) (acc : FVec F S128x128 .f32) :
    tripL_k0_t1 (F := F) Variants.none c none i a2 h2 a3 h3 a4 h4 a5 h5 a6 h6 a7 h7 a8 h8 a9 h9 a10 h10 a11 h11 a12 h12 v11 v13 v15 v17 v19 v21 v23
      (h2.unread x0) (h3.unread x1) (h4.unread x2) (h5.unread x3) k acc
      = [⟨tripRect k, tripOut v11 v13 v15 v21 v23 x0 x1 x2 x3 acc k.val⟩] := by
  have hk : k.val < 16 := trips_eq ▸ k.isLt
  unfold tripL_k0_t1 trip_k0_t1 tripOut
  dsimp only
  sl_unfold_words
  simp only [View.readAt_eq_ld, h2.read_unread, h3.read_unread, h4.read_unread, h5.read_unread]
  rw [← ld_chunk x0 hk _ (trip_off k) (k0_off1_inb k), ← ld_chunk x1 hk _ (trip_off k) (k0_off1_inb k),
    ← ld_chunk x2 hk _ (trip_off k) (k0_off1_inb k), ← ld_chunk x3 hk _ (trip_off k) (k0_off1_inb k)]
  rfl

/-- The loop before trip `k`: its state, and that every piece stored so far is some earlier trip's. -/
theorem loop_at : ∀ k : ℕ, k ≤ 16 →
    (st_k0_t1 (F := F) Variants.none c none i a2 h2 a3 h3 a4 h4 a5 h5 a6 h6 a7 h7 a8 h8 a9 h9 a10 h10 a11 h11 a12 h12 v11 v13 v15 v17 v19 v21 v23
      (h2.unread x0) (h3.unread x1) (h4.unread x2) (h5.unread x3) k0_pay7 k).1 = chunkState x1 x2 v17 v19 k
    ∧ ∀ p ∈ (st_k0_t1 (F := F) Variants.none c none i a2 h2 a3 h3 a4 h4 a5 h5 a6 h6 a7 h7 a8 h8 a9 h9 a10 h10 a11 h11 a12 h12 v11 v13 v15 v17 v19 v21 v23
      (h2.unread x0) (h3.unread x1) (h4.unread x2) (h5.unread x3) k0_pay7 k).2,
      ∃ j : Fin k0_t1_loop.trips, p = ⟨tripRect j, tripOut v11 v13 v15 v21 v23 x0 x1 x2 x3 (chunkState x1 x2 v17 v19 j.val) j.val⟩
  | 0, _ => ⟨rfl, fun p hp => absurd hp List.not_mem_nil⟩
  | k + 1, hk => by
    obtain ⟨ih1, ih2⟩ := loop_at k (by omega)
    have hs := st_k0_t1_succ (F := F) Variants.none c none i a2 h2 a3 h3 a4 h4 a5 h5 a6 h6 a7 h7 a8 h8 a9 h9 a10 h10 a11 h11 a12 h12 v11 v13 v15 v17 v19 v21 v23
      (h2.unread x0) (h3.unread x1) (h4.unread x2) (h5.unread x3) k0_pay7 ⟨k, trips_eq ▸ (by omega : k < 16)⟩
    rw [trip_state, trip_store, ih1] at hs
    refine ⟨?_, fun p hp => ?_⟩
    · exact congrArg Prod.fst hs
    · rw [show (_ : _ × List _).2 = _ from congrArg Prod.snd hs] at hp
      rcases List.mem_cons.mp hp with rfl | hp
      · exact ⟨⟨k, trips_eq ▸ (by omega : k < 16)⟩, rfl⟩
      · exact ih2 p hp

end Trips

theorem z3 : (![0, 0, 0] : Fin 3 → ℕ) = fun _ => 0 := funext fun a => by fin_cases a <;> rfl

/-- A load of one page of the decay block. -/
theorem ld_page0 (x : Vec F S2x128x128 .f32) (inb : ∀ a, (![0, 0, 0] : Fin 3 → ℕ) a + S1x128x128.size a ≤ S2x128x128.size a) :
    View.ld x (Rect.unit (s := S2x128x128) ![0, 0, 0] S1x128x128.size inb) = page x 0 := by
  funext y
  refine congrArg x (funext fun a => Fin.ext ?_)
  match a with
  | ⟨0, _⟩ => have : (y 0).val < 1 := (y 0).isLt; show 0 + 1 * (y 0).val = 0; omega
  | ⟨1, _⟩ => show 0 + 1 * (y 1).val = (y 1).val; omega
  | ⟨2, _⟩ => show 0 + 1 * (y 2).val = (y 2).val; omega

theorem ld_page1 (x : Vec F S2x128x128 .f32) (inb : ∀ a, (![1, 0, 0] : Fin 3 → ℕ) a + S1x128x128.size a ≤ S2x128x128.size a) :
    View.ld x (Rect.unit (s := S2x128x128) ![1, 0, 0] S1x128x128.size inb) = page x 1 := by
  funext y
  refine congrArg x (funext fun a => Fin.ext ?_)
  match a with
  | ⟨0, _⟩ => have : (y 0).val < 1 := (y 0).isLt; show 1 + 1 * (y 0).val = 1; omega
  | ⟨1, _⟩ => show 0 + 1 * (y 1).val = (y 1).val; omega
  | ⟨2, _⟩ => show 0 + 1 * (y 2).val = (y 2).val; omega

/-- THE BLOCK the body leaves: `blockOut` of its input blocks. -/
theorem out_block (c : Dev nD) (i : grid0.Coords) (a2 : Memref sig .tc .vmem S2048x128 .bf16) (h2 : a2.IsWhole) (a3 : Memref sig .tc .vmem S2048x128 .bf16) (h3 : a3.IsWhole) (a4 : Memref sig .tc .vmem S2048x128 .bf16) (h4 : a4.IsWhole) (a5 : Memref sig .tc .vmem S2048x128 .bf16) (h5 : a5.IsWhole) (a6 : Memref sig .tc .vmem S2x128x128 .f32) (h6 : a6.IsWhole) (a7 : Memref sig .tc .vmem S1x128x128 .f32) (h7 : a7.IsWhole) (a8 : Memref sig .tc .vmem S1x128x128 .f32) (h8 : a8.IsWhole) (a9 : Memref sig .tc .vmem S1x1x128 .f32) (h9 : a9.IsWhole) (a10 : Memref sig .tc .vmem S1x1x128 .f32) (h10 : a10.IsWhole) (a11 : Memref sig .tc .vmem S1x1x128 .f32) (h11 : a11.IsWhole) (a12 : Memref sig .tc .vmem S2048x128 .bf16) (h12 : a12.IsWhole)
    (x0 x1 x2 x3 : Vec F S2048x128 .bf16) (x4 : Vec F S2x128x128 .f32) (x5 x6 : Vec F S1x128x128 .f32) (x7 x8 x9 : Vec F S1x1x128 .f32) :
    out0_A_10 c i a2 h2 a3 h3 a4 h4 a5 h5 a6 h6 a7 h7 a8 h8 a9 h9 a10 h10 a11 h11 a12 h12 x0 x1 x2 x3 x4 x5 x6 x7 x8 x9 = blockOut x0 x1 x2 x3 x4 x5 x6 x7 x8 x9 := by
  unfold out0_A_10
  rw [View.read_writes_eq_canon _ _ _ (cover0_A_10 c i a2 h2 a3 h3 a4 h4 a5 h5 a6 h6 a7 h7 a8 h8 a9 h9 a10 h10 a11 h11 a12 h12 x0 x1 x2 x3 x4 x5 x6 x7 x8 x9)]
  funext y
  refine View.canon_apply_of_pieces _ _ ?_ y (cover0_A_10 c i a2 h2 a3 h3 a4 h4 a5 h5 a6 h6 a7 h7 a8 h8 a9 h9 a10 h10 a11 h11 a12 h12 x0 x1 x2 x3 x4 x5 x6 x7 x8 x9 y)
  unfold kernelRun0_A
  dsimp only
  sl_unfold_words
  simp only [View.readAt_eq_ld, h6.read_unread, h7.read_unread, h8.read_unread, h9.read_unread, h10.read_unread, h11.read_unread]
  intro p hp x
  obtain ⟨j, rfl⟩ := (loop_at c i a2 h2 a3 h3 a4 h4 a5 h5 a6 h6 a7 h7 a8 h8 a9 h9 a10 h10 a11 h11 a12 h12 _ _ _ _ _ _ _ x0 x1 x2 x3 16 (le_refl _)).2 p hp
  have hj : j.val < 16 := trips_eq ▸ j.isLt
  have hx0 : (x 0).val < 128 := (x 0).isLt
  have e0 : ((tripRect j).emb x 0).val = 128 * j.val + (x 0).val := by
    show k0_off1 j 0 + 1 * (x 0).val = _
    rw [trip_off j]; show 128 * j.val + 1 * (x 0).val = _; omega
  have e1 : ((tripRect j).emb x 1).val = (x 1).val := by
    show k0_off1 j 1 + 1 * (x 1).val = _
    rw [trip_off j]; show 0 + 1 * (x 1).val = _; omega
  have hq : ((tripRect j).emb x 0).val / 128 = j.val := by rw [e0]; omega
  have hr : ((tripRect j).emb x 0).val % 128 = (x 0).val := by rw [e0]; omega
  unfold blockOut chunkOut tripOut
  simp only [hq, hr]
  have p0 : View.ld x4 (Rect.unit (s := S2x128x128) ![0, 0, 0] ![1, 128, 128] inb_S2x128x128_S1x128x128_0_0_0) = page x4 0 := ld_page0 _ _
  have p1 : View.ld x4 (Rect.unit (s := S2x128x128) ![1, 0, 0] ![1, 128, 128] inb_S2x128x128_S1x128x128_1_0_0) = page x4 1 := ld_page1 _ _
  have p5 : View.ld x5 (Rect.unit (s := S1x128x128) ![0, 0, 0] ![1, 128, 128] inb_S1x128x128_S1x128x128_0_0_0) = x5 := View.ld_unit_zero z3 _ _
  have p6 : View.ld x6 (Rect.unit (s := S1x128x128) ![0, 0, 0] ![1, 128, 128] inb_S1x128x128_S1x128x128_0_0_0) = x6 := View.ld_unit_zero z3 _ _
  have p7 : View.ld x7 (Rect.unit (s := S1x1x128) ![0, 0, 0] ![1, 1, 128] inb_S1x1x128_S1x1x128_0_0_0) = x7 := View.ld_unit_zero z3 _ _
  have p8 : View.ld x8 (Rect.unit (s := S1x1x128) ![0, 0, 0] ![1, 1, 128] inb_S1x1x128_S1x1x128_0_0_0) = x8 := View.ld_unit_zero z3 _ _
  have p9 : View.ld x9 (Rect.unit (s := S1x1x128) ![0, 0, 0] ![1, 1, 128] inb_S1x1x128_S1x1x128_0_0_0) = x9 := View.ld_unit_zero z3 _ _
  rw [p0, p1, p5, p6, p7, p8, p9]
  refine congrArg _ (funext fun a => Fin.ext ?_)
  match a with
  | ⟨0, _⟩ => rfl
  | ⟨1, _⟩ => exact e1.symm

end Cert.Proof.Ret

end
-- ==== Proof.RetPay.lean ====
/-
  The retention kernel's arithmetic over the extended reals, one head at a time. A block holds two heads: lane `64 g + e`
  is element `e` of the pair's head `g`. Here the spec of one head is written (`retState`, `retOut`, `retNorm`) and the
  kernel's output block is read as that spec of each of its two heads (`blockOut_apply`).
-/
module

public import proofs.«01_k».proof.Proof.RetLoop

@[expose] public section

set_option maxRecDepth 16384

noncomputable section

open Idealize.ShloMosaic

namespace Cert.Proof.Ret

open Cert.KernelIdeal Cert.KernelIdeal.Gen

/-! ## One head's retention -/

/-- A head's state before chunk `n`: decayed by `cd` a chunk, and increased by the chunk's keys (decayed by `zeta`)
    times its values. -/
def retState (cd : EReal) (zeta : Fin 128 → EReal) (k v : ℕ → Fin 128 → Fin 64 → EReal) : ℕ → Fin 64 → Fin 64 → EReal
  | 0 => fun _ _ => 0
  | n + 1 => fun d e => cd * retState cd zeta k v n d e + ∑ j, k n j d * zeta j * v n j e

/-- A head's output at row `i` of a chunk: the chunk's own rows, and the state before the chunk. -/
def retOut (dec : Fin 128 → Fin 128 → EReal) (xi : Fin 128 → EReal) (q k v : Fin 128 → Fin 64 → EReal)
    (s : Fin 64 → Fin 64 → EReal) (i : Fin 128) (e : Fin 64) : EReal :=
  ∑ j, (∑ d, q i d * k j d) * dec i j * v j e + ∑ d, q i d * xi i * s d e

/-- A row less its mean. -/
def centred (o : Fin 64 → EReal) (e : Fin 64) : EReal := o e - (∑ d, o d) * Ideal.ofBits .f32 0x3C800000#32

/-- The layer norm of a head's row, times its gate. -/
def retNorm (o g b : Fin 64 → EReal) (sg : EReal) (e : Fin 64) : EReal :=
  sg * (centred o e * Ideal.rsqrt ((∑ d, centred o d * centred o d) * Ideal.ofBits .f32 0x3C800000#32
    + Ideal.ofBits .f32 0x358637BD#32) * g e + b e)

/-! ## Lanes -/

/-- Lane of element `e` of the pair's head `g`. -/
def lane (g : Fin 2) (e : Fin 64) : Fin 128 := ⟨64 * g.val + e.val, by have := g.isLt; have := e.isLt; omega⟩

theorem exists_lane (l : Fin 128) : ∃ g e, l = lane g e :=
  ⟨⟨l.val / 64, by have := l.isLt; omega⟩, ⟨l.val % 64, by omega⟩, Fin.ext (by show l.val = 64 * (l.val / 64) + l.val % 64; omega)⟩

theorem sum_lanes (f : Fin 128 → EReal) : ∑ x, f x = ∑ e, f (lane 0 e) + ∑ e, f (lane 1 e) := by
  refine (Fin.sum_univ_add (a := 64) (b := 64) f).trans ?_
  exact congrArg₂ (· + ·) (Finset.sum_congr rfl fun e _ => congrArg f (Fin.ext (by show e.val = 64 * 0 + e.val; omega)))
    (Finset.sum_congr rfl fun e _ => congrArg f (Fin.ext (by show 64 + e.val = 64 * 1 + e.val; omega)))

theorem sel_one (a b : EReal) : Scalar.select 1#1 a b = a := rfl
theorem sel_zero (a b : EReal) : Scalar.select 0#1 a b = b := rfl

theorem half0 : ∀ e : Fin 64, IntOp.cmpi CmpIPredicate.slt (BitVec.ofNat 32 (lane 0 e).val) 64#32 = 1#1 := by decide
theorem half1 : ∀ e : Fin 64, IntOp.cmpi CmpIPredicate.slt (BitVec.ofNat 32 (lane 1 e).val) 64#32 = 0#1 := by decide

theorem mask_apply (r l : Fin 128) : k0_pay3 (ix2 r l) = IntOp.cmpi CmpIPredicate.slt (BitVec.ofNat 32 l.val) 64#32 := by
  pointwise [k0_pay3]

theorem mask0 (r : Fin 128) (e : Fin 64) : k0_pay3 (ix2 r (lane 0 e)) = 1#1 := (mask_apply r _).trans (half0 e)
theorem mask1 (r : Fin 128) (e : Fin 64) : k0_pay3 (ix2 r (lane 1 e)) = 0#1 := (mask_apply r _).trans (half1 e)

/-- A sum over the lanes masked to the first head is a sum over that head's elements. -/
theorem sum_mask0 (r : Fin 128) (f : Fin 128 → EReal) :
    ∑ x, Scalar.select (k0_pay3 (ix2 r x)) (f x) 0 = ∑ e, f (lane 0 e) := by
  rw [sum_lanes]
  simp only [mask0, mask1, sel_one, sel_zero, Finset.sum_const_zero, add_zero]

theorem sum_mask1 (r : Fin 128) (f : Fin 128 → EReal) :
    ∑ x, Scalar.select (k0_pay3 (ix2 r x)) 0 (f x) = ∑ e, f (lane 1 e) := by
  rw [sum_lanes]
  simp only [mask0, mask1, sel_one, sel_zero, Finset.sum_const_zero, zero_add]

/-- Head `g`'s lanes of a block of rows. -/
def headOf (x : Vec Ideal S128x128 .bf16) (g : Fin 2) (r : Fin 128) (e : Fin 64) : EReal := x (ix2 r (lane g e))

/-! ## The state -/

/-- The 128×128 state of a pair holds its two heads' states on the diagonal and zero off it. -/
def IsPair (s : FVec Ideal S128x128 .f32) (t : Fin 2 → Fin 64 → Fin 64 → EReal) : Prop :=
  (∀ g d e, s (ix2 (lane g d) (lane g e)) = t g d e) ∧ ∀ g g' d e, g ≠ g' → s (ix2 (lane g d) (lane g' e)) = 0

theorem pay7_isPair : IsPair (k0_pay7 (F := Ideal)) fun _ _ _ => 0 := by
  constructor
  · intro g d e; pointwise [k0_pay7]
  · intro g g' d e _; pointwise [k0_pay7]

theorem pay9_apply (x6 : Vec Ideal S1x128x128 .f32) (x7 : Vec Ideal S1x1x128 .f32) (s : FVec Ideal S128x128 .f32)
    (k v : Vec Ideal S128x128 .bf16) (a b : Fin 128) :
    k0_pay9 x6 x7 s k v (ix2 a b) = x7 (ix3 0 0 b) * s (ix2 a b) + Scalar.select
        (IntOp.xori
          (IntOp.xori (IntOp.cmpi CmpIPredicate.slt (BitVec.ofNat 32 a.val) 64#32)
            (IntOp.cmpi CmpIPredicate.slt (BitVec.ofNat 32 b.val) 64#32))
          1#1)
        (∑ x, k (ix2 x a) * x6 (ix3 0 x a) * v (ix2 x b)) 0 := by
  pointwise [k0_pay9]

theorem pay9_isPair (x6 : Vec Ideal S1x128x128 .f32) (x7 : Vec Ideal S1x1x128 .f32) (s : FVec Ideal S128x128 .f32)
    (k v : Vec Ideal S128x128 .bf16) (t : Fin 2 → Fin 64 → Fin 64 → EReal) (hs : IsPair s t)
    (cd : Fin 2 → EReal) (zeta : Fin 2 → Fin 128 → EReal) (hcd : ∀ g e, x7 (ix3 0 0 (lane g e)) = cd g)
    (hz : ∀ g j d, x6 (ix3 0 j (lane g d)) = zeta g j) :
    IsPair (k0_pay9 x6 x7 s k v) fun g d e => cd g * t g d e + ∑ j, headOf k g j d * zeta g j * headOf v g j e := by
  constructor
  · intro g d e
    rw [pay9_apply, hcd, hs.1]
    simp only [hz]
    match g with
    | 0 => rw [half0, half0]; rfl
    | 1 => rw [half1, half1]; rfl
  · intro g g' d e hg
    rw [pay9_apply, hs.2 g g' d e hg, mul_zero, zero_add]
    match g, g', hg with
    | 0, 1, _ => rw [half0, half1]; rfl
    | 1, 0, _ => rw [half0, half1]; rfl
    | 0, 0, h => exact absurd rfl h
    | 1, 1, h => exact absurd rfl h

/-! ## A chunk's rows -/

theorem cross_lanes (s : FVec Ideal S128x128 .f32) (t : Fin 2 → Fin 64 → Fin 64 → EReal) (hs : IsPair s t)
    (f : Fin 128 → EReal) (g : Fin 2) (e : Fin 64) :
    ∑ x, f x * s (ix2 x (lane g e)) = ∑ d, f (lane g d) * t g d e := by
  rw [sum_lanes]
  match g with
  | 0 => simp only [hs.1, hs.2 1 0 _ _ (by decide), mul_zero, Finset.sum_const_zero, add_zero]
  | 1 => simp only [hs.1, hs.2 0 1 _ _ (by decide), mul_zero, Finset.sum_const_zero, zero_add]

section Rows

variable (p0 p1 x5 : Vec Ideal S1x128x128 .f32) (s : FVec Ideal S128x128 .f32) (q k v : Vec Ideal S128x128 .bf16)
  (t : Fin 2 → Fin 64 → Fin 64 → EReal) (hs : IsPair s t) (dec : Fin 2 → Fin 128 → Fin 128 → EReal) (xi : Fin 2 → Fin 128 → EReal)
  (hp0 : ∀ i j, p0 (ix3 0 i j) = dec 0 i j) (hp1 : ∀ i j, p1 (ix3 0 i j) = dec 1 i j)
  (hxi : ∀ g i d, x5 (ix3 0 i (lane g d)) = xi g i)

include hs hp0 hp1 hxi

theorem pay1_apply (a : Fin 128) (g : Fin 2) (e : Fin 64) :
    k0_pay1 k0_pay3 (k0_pay4 p0) (k0_pay5 p1) (k0_pay6 x5) s q k v (ix2 a (lane g e))
      = centred (retOut (dec g) (xi g) (headOf q g) (headOf k g) (headOf v g) (t g) a) e := by
  pointwise [k0_pay1, k0_pay4, k0_pay5, k0_pay6]
  simp only [sum_mask0, sum_mask1, cross_lanes s t hs (fun x => q (ix2 a x) * x5 (ix3 0 a x)), hp0, hp1, hxi]
  match g with
  | 0 =>
    simp only [mask0, mask1, sel_one, sel_zero, Finset.sum_const_zero, zero_add, add_zero]
    rfl
  | 1 =>
    simp only [mask0, mask1, sel_one, sel_zero, Finset.sum_const_zero, zero_add, add_zero]
    rfl

theorem pay2_apply (a : Fin 128) (g : Fin 2) (e : Fin 64) :
    k0_pay2 k0_pay3 (k0_pay4 p0) (k0_pay5 p1) (k0_pay6 x5) s q k v (ix2 a (lane g e))
      = centred (retOut (dec g) (xi g) (headOf q g) (headOf k g) (headOf v g) (t g) a) e
        * centred (retOut (dec g) (xi g) (headOf q g) (headOf k g) (headOf v g) (t g) a) e := by
  unfold k0_pay2
  show _ * _ = _
  rw [pay1_apply p0 p1 x5 s q k v t hs dec xi hp0 hp1 hxi a g e]

end Rows

theorem pay8_apply (x8 x9 : Vec Ideal S1x1x128 .f32) (c2 c : FVec Ideal S128x128 .f32) (sg : Vec Ideal S128x128 .bf16)
    (a : Fin 128) (o : Fin 2 → Fin 64 → EReal)
    (hc : ∀ g e, c (ix2 a (lane g e)) = centred (o g) e) (hc2 : ∀ g e, c2 (ix2 a (lane g e)) = centred (o g) e * centred (o g) e)
    (g : Fin 2) (e : Fin 64) :
    k0_pay8 x8 x9 c c2 (FloatOps.ofBits .f32 0#32) sg (ix2 a (lane g e))
      = retNorm (o g) (fun e => x8 (ix3 0 0 (lane g e))) (fun e => x9 (ix3 0 0 (lane g e))) (sg (ix2 a (lane g e))) e := by
  pointwise [k0_pay8]
  simp only [sum_mask0, sum_mask1, hc, hc2]
  match g with
  | 0 =>
    simp only [mask0, mask1, sel_one, sel_zero, Finset.sum_const_zero, zero_add, add_zero]
    rfl
  | 1 =>
    simp only [mask0, mask1, sel_one, sel_zero, Finset.sum_const_zero, zero_add, add_zero]
    rfl

/-! ## The block -/

section Block

variable (x0 x1 x2 x3 : Vec Ideal S2048x128 .bf16) (x4 : Vec Ideal S2x128x128 .f32) (x5 x6 : Vec Ideal S1x128x128 .f32)
    (x7 x8 x9 : Vec Ideal S1x1x128 .f32)
  (dec : Fin 2 → Fin 128 → Fin 128 → EReal) (xi zeta : Fin 2 → Fin 128 → EReal) (cd : Fin 2 → EReal)
  (hdec : ∀ g i j, x4 (ix3 g i j) = dec g i j)
  (hxi : ∀ g i d, x5 (ix3 0 i (lane g d)) = xi g i) (hz : ∀ g j d, x6 (ix3 0 j (lane g d)) = zeta g j)
  (hcd : ∀ g e, x7 (ix3 0 0 (lane g e)) = cd g)

/-- Head `g`'s rows of chunk `n` of a block. -/
def blockHead (x : Vec Ideal S2048x128 .bf16) (g : Fin 2) (n : ℕ) (r : Fin 128) (e : Fin 64) : EReal :=
  x (ix2 (chunkRow n r) (lane g e))

include hz hcd in
theorem chunkState_isPair : ∀ n, IsPair (chunkState x1 x2 x6 x7 n)
    fun g => retState (cd g) (zeta g) (blockHead x1 g) (blockHead x2 g) n
  | 0 => pay7_isPair
  | n + 1 => pay9_isPair x6 x7 _ _ _ _ (chunkState_isPair n) cd zeta hcd hz

include hdec hxi hz hcd in
theorem chunkOut_apply (n : ℕ) (a : Fin 128) (g : Fin 2) (e : Fin 64) :
    chunkOut x0 x1 x2 x3 x4 x5 x6 x7 x8 x9 n (ix2 a (lane g e))
      = retNorm (retOut (dec g) (xi g) (blockHead x0 g n) (blockHead x1 g n) (blockHead x2 g n)
          (retState (cd g) (zeta g) (blockHead x1 g) (blockHead x2 g) n) a)
        (fun e => x8 (ix3 0 0 (lane g e))) (fun e => x9 (ix3 0 0 (lane g e))) (blockHead x3 g n a e) e := by
  have hs := chunkState_isPair x1 x2 x6 x7 zeta cd hz hcd n
  have hp0 : ∀ i j, page x4 0 (ix3 0 i j) = dec 0 i j := hdec 0
  have hp1 : ∀ i j, page x4 1 (ix3 0 i j) = dec 1 i j := hdec 1
  have h1 := pay1_apply (page x4 0) (page x4 1) x5 (chunkState x1 x2 x6 x7 n) (chunk x0 n) (chunk x1 n) (chunk x2 n) _ hs dec xi hp0 hp1 hxi a
  have h2 := pay2_apply (page x4 0) (page x4 1) x5 (chunkState x1 x2 x6 x7 n) (chunk x0 n) (chunk x1 n) (chunk x2 n) _ hs dec xi hp0 hp1 hxi a
  have e0 : headOf (chunk x0 n) = fun g => blockHead x0 g n := rfl
  have e1 : headOf (chunk x1 n) = fun g => blockHead x1 g n := rfl
  have e2 : headOf (chunk x2 n) = fun g => blockHead x2 g n := rfl
  have e3 : blockHead x3 g n a e = chunk x3 n (ix2 a (lane g e)) := rfl
  rw [e0, e1, e2] at h1 h2
  rw [e3]
  unfold chunkOut
  exact pay8_apply x8 x9 _ _ (chunk x3 n) a
    (fun g => retOut (dec g) (xi g) (blockHead x0 g n) (blockHead x1 g n) (blockHead x2 g n)
          (retState (cd g) (zeta g) (blockHead x1 g) (blockHead x2 g) n) a) h1 h2 g e

include hdec hxi hz hcd in
/-- THE BLOCK at row `128 n + a`, lane `64 g + e`. -/
theorem blockOut_apply (n : ℕ) (hn : n < 16) (a : Fin 128) (g : Fin 2) (e : Fin 64) :
    blockOut x0 x1 x2 x3 x4 x5 x6 x7 x8 x9 (ix2 (chunkRow n a) (lane g e))
      = retNorm (retOut (dec g) (xi g) (blockHead x0 g n) (blockHead x1 g n) (blockHead x2 g n)
          (retState (cd g) (zeta g) (blockHead x1 g) (blockHead x2 g) n) a)
        (fun e => x8 (ix3 0 0 (lane g e))) (fun e => x9 (ix3 0 0 (lane g e))) (blockHead x3 g n a e) e := by
  have hv := chunkRow_val hn a
  have ha := a.isLt
  rw [← chunkOut_apply x0 x1 x2 x3 x4 x5 x6 x7 x8 x9 dec xi zeta cd hdec hxi hz hcd]
  have h1 : (chunkRow n a).val / 128 = n := by omega
  have h2 : (⟨(chunkRow n a).val % 128, Nat.mod_lt _ (by decide)⟩ : Fin 128) = a := Fin.ext (by show _ % 128 = _; omega)
  show chunkOut x0 x1 x2 x3 x4 x5 x6 x7 x8 x9 ((chunkRow n a).val / 128) (ix2 ⟨(chunkRow n a).val % 128, _⟩ (lane g e)) = _
  rw [h1, h2]

end Block

end Cert.Proof.Ret

end
-- ==== Proof.RetHost.lean ====
/-
  The retention kernel's whole result. Grid point `4 b + p` handles sequence `b` and the pair of heads `2 p`, `2 p + 1`; its
  blocks are read off the arguments and off the decay tables the host computes, and the result array is the spec of each
  head of each sequence (`kernel_apply`).
-/
module

public import proofs.«01_k».proof.Proof.RetPay
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.Ret

open Cert.KernelIdeal Cert.KernelIdeal.Gen

/-! ## The decay tables -/

/-- A position as a float. -/
def fpos (i : ℕ) : EReal := FloatOps.sitofp (F := Ideal) .f32 (BitVec.ofNat 32 i)

/-- The logarithm of head `h`'s decay. -/
def logDecay (h : ℕ) : EReal :=
  Ideal.log1p (-Ideal.pow (Ideal.ofBits .f32 0x40000000#32) (Ideal.ofBits .f32 0xC0A00000#32 - fpos h))

/-- The decay of a whole chunk. -/
def chunkDecay (h : ℕ) : EReal := Ideal.exp (logDecay h * Ideal.ofBits .f32 0x43000000#32)

/-- The decay of a state read at row `i`. -/
def xiOf (h : ℕ) (i : Fin 128) : EReal := Ideal.exp (logDecay h * (fpos i.val + 1))

/-- The decay of row `j`'s key in the chunk's contribution to the state. -/
def zetaOf (h : ℕ) (j : Fin 128) : EReal := Ideal.exp (logDecay h * (Ideal.ofBits .f32 0x42FE0000#32 - fpos j.val))

/-- The decay from row `j` to row `i` of a chunk: zero when `j` is later. -/
def decOf (h : ℕ) (i j : Fin 128) : EReal :=
  if j.val ≤ i.val then Ideal.exp (logDecay h * max (fpos i.val - fpos j.val) 0) else 0

theorem fpos_eq {i : ℕ} (h : i < 128) : fpos i = ((i : ℝ) : EReal) := by
  have e : (BitVec.ofNat 32 i).toInt = (i : ℤ) :=
    (by decide : ∀ k : Fin 128, (BitVec.ofNat 32 k.val).toInt = (k.val : ℤ)) ⟨i, h⟩
  show (((BitVec.ofNat 32 i).toInt : ℝ) : EReal) = _
  rw [e]
  norm_cast

/-- The float mask of the kernel's decay table says the column is not later than the row. -/
theorem float_mask (i j : Fin 128) : 0 ≤ fpos i.val - fpos j.val ↔ j.val ≤ i.val := by
  rw [fpos_eq i.isLt, fpos_eq j.isLt, ← EReal.coe_sub, ← EReal.coe_zero, EReal.coe_le_coe_iff, sub_nonneg, Nat.cast_le]

variable (m : (ℓ : Loc nD τ sig) → Buf (Elt Ideal) ℓ) (c : Dev nD)

set_option maxHeartbeats 1000000 in
theorem V_cd (p : Fin 4) (g : Fin 2) (e : Fin 64) :
    (V m c main_v45 : Vec Ideal S4x1x128 .f32) (ix3 p 0 (lane g e)) = chunkDecay (2 * p.val + g.val) := by
  have h : (p.val * 128 + (lane g e).val) / 64 = 2 * p.val + g.val := by have := e.isLt; show (p.val * 128 + (64 * g.val + e.val)) / 64 = _; omega
  unfold V
  simp only [List.flatten_cons, List.flatten_nil, List.append_nil]
  after_reads_simp
  clean_types
  pointwise []
  rw [h]
  rfl

set_option maxHeartbeats 1000000 in
theorem V_xi (p : Fin 4) (i : Fin 128) (g : Fin 2) (e : Fin 64) :
    (V m c main_v49 : Vec Ideal S4x128x128 .f32) (ix3 p i (lane g e)) = xiOf (2 * p.val + g.val) i := by
  have h : (p.val * 128 + (lane g e).val) / 64 = 2 * p.val + g.val := by have := e.isLt; show (p.val * 128 + (64 * g.val + e.val)) / 64 = _; omega
  unfold V
  simp only [List.flatten_cons, List.flatten_nil, List.append_nil]
  after_reads_simp
  clean_types
  pointwise []
  rw [h]
  rfl

set_option maxHeartbeats 1000000 in
theorem V_zeta (p : Fin 4) (i : Fin 128) (g : Fin 2) (e : Fin 64) :
    (V m c main_v53 : Vec Ideal S4x128x128 .f32) (ix3 p i (lane g e)) = zetaOf (2 * p.val + g.val) i := by
  have h : (p.val * 128 + (lane g e).val) / 64 = 2 * p.val + g.val := by have := e.isLt; show (p.val * 128 + (64 * g.val + e.val)) / 64 = _; omega
  unfold V
  simp only [List.flatten_cons, List.flatten_nil, List.append_nil]
  after_reads_simp
  clean_types
  pointwise []
  rw [h]
  rfl

set_option maxHeartbeats 1000000 in
theorem V_dec (h : Fin 8) (i j : Fin 128) :
    (V m c main_v23 : Vec Ideal S8x128x128 .f32) (ix3 h i j) = decOf h.val i j := by
  unfold V
  simp only [List.flatten_cons, List.flatten_nil, List.append_nil]
  after_reads_simp
  dsimp only [TRef.toBuf, TRef.ofBuf, TRef.of]
  simp only [cast_eq, id_eq]
  clean_types
  pointwise []
  exact if_congr (float_mask i j) rfl rfl

/-- Element `64 g + e` of row `p` of the norm's weights, laid out two heads to a row. -/
theorem V_ng (p : Fin 4) (g : Fin 2) (e : Fin 64) (h : Fin 8) (hh : h.val = 2 * p.val + g.val) :
    (V m c main_v54 : Vec Ideal S4x1x128 .f32) (ix3 p 0 (lane g e)) = (m ((c : Thread nD τ).loc main_arg4) : Vec Ideal S8x64 .f32) (ix2 h e) := by
  have he := e.isLt
  unfold V
  simp only [List.flatten_cons, List.flatten_nil, List.append_nil]
  after_reads_simp
  clean_types
  pointwise []
  refine congrArg (m ((c : Thread nD τ).loc main_arg4)) (congrArg₂ ix2 (Fin.ext ?_) (Fin.ext ?_))
  · show p.val * 2 + (64 * g.val + e.val) / 64 = h.val; omega
  · show (64 * g.val + e.val) % 64 = e.val; omega

theorem V_nb (p : Fin 4) (g : Fin 2) (e : Fin 64) (h : Fin 8) (hh : h.val = 2 * p.val + g.val) :
    (V m c main_v55 : Vec Ideal S4x1x128 .f32) (ix3 p 0 (lane g e)) = (m ((c : Thread nD τ).loc main_arg5) : Vec Ideal S8x64 .f32) (ix2 h e) := by
  have he := e.isLt
  unfold V
  simp only [List.flatten_cons, List.flatten_nil, List.append_nil]
  after_reads_simp
  clean_types
  pointwise []
  refine congrArg (m ((c : Thread nD τ).loc main_arg5)) (congrArg₂ ix2 (Fin.ext ?_) (Fin.ext ?_))
  · show p.val * 2 + (64 * g.val + e.val) / 64 = h.val; omega
  · show (64 * g.val + e.val) % 64 = e.val; omega

/-! ## The blocks -/

theorem N32 : cfg0.N = 32 := by decide

theorem ix_row : ∀ t : Fin cfg0.N, win0_0.index t 0 = t.val / 4 ∧ win0_0.index t 1 = t.val % 4 ∧
    win0_1.index t 0 = t.val / 4 ∧ win0_1.index t 1 = t.val % 4 ∧ win0_2.index t 0 = t.val / 4 ∧ win0_2.index t 1 = t.val % 4 ∧
    win0_3.index t 0 = t.val / 4 ∧ win0_3.index t 1 = t.val % 4 ∧ win0_10.index t 0 = t.val / 4 ∧ win0_10.index t 1 = t.val % 4 :=
  (by decide +kernel : ∀ t : Fin grid0.N, _)

theorem ix_pair : ∀ t : Fin cfg0.N, (win0_4.index t 0 = t.val % 4 ∧ win0_4.index t 1 = 0 ∧ win0_4.index t 2 = 0) ∧
    (win0_5.index t 0 = t.val % 4 ∧ win0_5.index t 1 = 0 ∧ win0_5.index t 2 = 0) ∧
    (win0_6.index t 0 = t.val % 4 ∧ win0_6.index t 1 = 0 ∧ win0_6.index t 2 = 0) ∧
    (win0_7.index t 0 = t.val % 4 ∧ win0_7.index t 1 = 0 ∧ win0_7.index t 2 = 0) ∧
    (win0_8.index t 0 = t.val % 4 ∧ win0_8.index t 1 = 0 ∧ win0_8.index t 2 = 0) ∧
    (win0_9.index t 0 = t.val % 4 ∧ win0_9.index t 1 = 0 ∧ win0_9.index t 2 = 0) :=
  (by decide +kernel : ∀ t : Fin grid0.N, _)

section At

variable (t : Fin cfg0.N)

section Row

variable (r : Fin 2048) (l : Fin 128) (R : Fin 16384) (L : Fin 512)
  (hR : R.val = 2048 * (t.val / 4) + r.val) (hL : L.val = 128 * (t.val % 4) + l.val)

include hR hL

theorem blk0 : iblk m c 0 t (ix2 r l) = m ((c : Thread nD τ).loc main_arg0) (ix2 R L) := by
  show V m c (Pipeline.arrRef spec0 0) (((cfg0.win 0).blk t).view.emb (ix2 r l)) = _
  rw [show V m c (Pipeline.arrRef spec0 0) = _ from V_main_arg0 m c]
  refine congrArg _ (funext fun a => Fin.ext ?_)
  match a with
  | ⟨0, _⟩ => show win0_0.index t 0 * 2048 + 1 * r.val = R.val; rw [(ix_row t).1]; omega
  | ⟨1, _⟩ => show win0_0.index t 1 * 128 + 1 * l.val = L.val; rw [(ix_row t).2.1]; omega

theorem blk1 : iblk m c 1 t (ix2 r l) = m ((c : Thread nD τ).loc main_arg1) (ix2 R L) := by
  show V m c (Pipeline.arrRef spec0 1) (((cfg0.win 1).blk t).view.emb (ix2 r l)) = _
  rw [show V m c (Pipeline.arrRef spec0 1) = _ from V_main_arg1 m c]
  refine congrArg _ (funext fun a => Fin.ext ?_)
  match a with
  | ⟨0, _⟩ => show win0_1.index t 0 * 2048 + 1 * r.val = R.val; rw [(ix_row t).2.2.1]; omega
  | ⟨1, _⟩ => show win0_1.index t 1 * 128 + 1 * l.val = L.val; rw [(ix_row t).2.2.2.1]; omega

theorem blk2 : iblk m c 2 t (ix2 r l) = m ((c : Thread nD τ).loc main_arg2) (ix2 R L) := by
  show V m c (Pipeline.arrRef spec0 2) (((cfg0.win 2).blk t).view.emb (ix2 r l)) = _
  rw [show V m c (Pipeline.arrRef spec0 2) = _ from V_main_arg2 m c]
  refine congrArg _ (funext fun a => Fin.ext ?_)
  match a with
  | ⟨0, _⟩ => show win0_2.index t 0 * 2048 + 1 * r.val = R.val; rw [(ix_row t).2.2.2.2.1]; omega
  | ⟨1, _⟩ => show win0_2.index t 1 * 128 + 1 * l.val = L.val; rw [(ix_row t).2.2.2.2.2.1]; omega

theorem blk3 : iblk m c 3 t (ix2 r l) = m ((c : Thread nD τ).loc main_arg3) (ix2 R L) := by
  show V m c (Pipeline.arrRef spec0 3) (((cfg0.win 3).blk t).view.emb (ix2 r l)) = _
  rw [show V m c (Pipeline.arrRef spec0 3) = _ from V_main_arg3 m c]
  refine congrArg _ (funext fun a => Fin.ext ?_)
  match a with
  | ⟨0, _⟩ => show win0_3.index t 0 * 2048 + 1 * r.val = R.val; rw [(ix_row t).2.2.2.2.2.2.1]; omega
  | ⟨1, _⟩ => show win0_3.index t 1 * 128 + 1 * l.val = L.val; rw [(ix_row t).2.2.2.2.2.2.2.1]; omega

/-- An entry of the result is the entry of the block its grid point wrote. -/
theorem arr_blk : (dats m 0 c).arrAt 10 cfg0.N (ix2 R L) = (dats m 0 c).flushed 10 t (ix2 r l) := by
  rw [← Value.blocks10 m c t (flush0_10 t)]
  show (dats m 0 c).arrAt 10 cfg0.N (ix2 R L) = (dats m 0 c).arrAt 10 cfg0.N (((cfg0.win 10).blk t).view.emb (ix2 r l))
  refine congrArg _ (funext fun a => Fin.ext ?_)
  match a with
  | ⟨0, _⟩ => show R.val = win0_10.index t 0 * 2048 + 1 * r.val; rw [(ix_row t).2.2.2.2.2.2.2.2.1]; omega
  | ⟨1, _⟩ => show L.val = win0_10.index t 1 * 128 + 1 * l.val; rw [(ix_row t).2.2.2.2.2.2.2.2.2]; omega

end Row

section Pair

variable (p : Fin 4) (hp : p.val = t.val % 4)

include hp

theorem blk4 (g : Fin 2) (i j : Fin 128) (h : Fin 8) (hh : h.val = 2 * p.val + g.val) :
    iblk m c 4 t (ix3 g i j) = (V m c main_v23 : Vec Ideal S8x128x128 .f32) (ix3 h i j) := by
  show V m c main_v23 (((cfg0.win 4).blk t).view.emb (ix3 g i j)) = _
  refine congrArg _ (funext fun a => Fin.ext ?_)
  match a with
  | ⟨0, _⟩ => show win0_4.index t 0 * 2 + 1 * g.val = h.val; rw [(ix_pair t).1.1]; omega
  | ⟨1, _⟩ => show win0_4.index t 1 * 128 + 1 * i.val = i.val; rw [(ix_pair t).1.2.1]; omega
  | ⟨2, _⟩ => show win0_4.index t 2 * 128 + 1 * j.val = j.val; rw [(ix_pair t).1.2.2]; omega

theorem blk5 (i l : Fin 128) : iblk m c 5 t (ix3 0 i l) = (V m c main_v49 : Vec Ideal S4x128x128 .f32) (ix3 p i l) := by
  show V m c main_v49 (((cfg0.win 5).blk t).view.emb (ix3 0 i l)) = _
  refine congrArg _ (funext fun a => Fin.ext ?_)
  match a with
  | ⟨0, _⟩ => show win0_5.index t 0 * 1 + 1 * 0 = p.val; rw [(ix_pair t).2.1.1]; omega
  | ⟨1, _⟩ => show win0_5.index t 1 * 128 + 1 * i.val = i.val; rw [(ix_pair t).2.1.2.1]; omega
  | ⟨2, _⟩ => show win0_5.index t 2 * 128 + 1 * l.val = l.val; rw [(ix_pair t).2.1.2.2]; omega

theorem blk6 (i l : Fin 128) : iblk m c 6 t (ix3 0 i l) = (V m c main_v53 : Vec Ideal S4x128x128 .f32) (ix3 p i l) := by
  show V m c main_v53 (((cfg0.win 6).blk t).view.emb (ix3 0 i l)) = _
  refine congrArg _ (funext fun a => Fin.ext ?_)
  match a with
  | ⟨0, _⟩ => show win0_6.index t 0 * 1 + 1 * 0 = p.val; rw [(ix_pair t).2.2.1.1]; omega
  | ⟨1, _⟩ => show win0_6.index t 1 * 128 + 1 * i.val = i.val; rw [(ix_pair t).2.2.1.2.1]; omega
  | ⟨2, _⟩ => show win0_6.index t 2 * 128 + 1 * l.val = l.val; rw [(ix_pair t).2.2.1.2.2]; omega

theorem blk7 (l : Fin 128) : iblk m c 7 t (ix3 0 0 l) = (V m c main_v45 : Vec Ideal S4x1x128 .f32) (ix3 p 0 l) := by
  show V m c main_v45 (((cfg0.win 7).blk t).view.emb (ix3 0 0 l)) = _
  refine congrArg _ (funext fun a => Fin.ext ?_)
  match a with
  | ⟨0, _⟩ => show win0_7.index t 0 * 1 + 1 * 0 = p.val; rw [(ix_pair t).2.2.2.1.1]; omega
  | ⟨1, _⟩ => show win0_7.index t 1 * 1 + 1 * 0 = 0; rw [(ix_pair t).2.2.2.1.2.1]
  | ⟨2, _⟩ => show win0_7.index t 2 * 128 + 1 * l.val = l.val; rw [(ix_pair t).2.2.2.1.2.2]; omega

theorem blk8 (l : Fin 128) : iblk m c 8 t (ix3 0 0 l) = (V m c main_v54 : Vec Ideal S4x1x128 .f32) (ix3 p 0 l) := by
  show V m c main_v54 (((cfg0.win 8).blk t).view.emb (ix3 0 0 l)) = _
  refine congrArg _ (funext fun a => Fin.ext ?_)
  match a with
  | ⟨0, _⟩ => show win0_8.index t 0 * 1 + 1 * 0 = p.val; rw [(ix_pair t).2.2.2.2.1.1]; omega
  | ⟨1, _⟩ => show win0_8.index t 1 * 1 + 1 * 0 = 0; rw [(ix_pair t).2.2.2.2.1.2.1]
  | ⟨2, _⟩ => show win0_8.index t 2 * 128 + 1 * l.val = l.val; rw [(ix_pair t).2.2.2.2.1.2.2]; omega

theorem blk9 (l : Fin 128) : iblk m c 9 t (ix3 0 0 l) = (V m c main_v55 : Vec Ideal S4x1x128 .f32) (ix3 p 0 l) := by
  show V m c main_v55 (((cfg0.win 9).blk t).view.emb (ix3 0 0 l)) = _
  refine congrArg _ (funext fun a => Fin.ext ?_)
  match a with
  | ⟨0, _⟩ => show win0_9.index t 0 * 1 + 1 * 0 = p.val; rw [(ix_pair t).2.2.2.2.2.1]; omega
  | ⟨1, _⟩ => show win0_9.index t 1 * 1 + 1 * 0 = 0; rw [(ix_pair t).2.2.2.2.2.2.1]
  | ⟨2, _⟩ => show win0_9.index t 2 * 128 + 1 * l.val = l.val; rw [(ix_pair t).2.2.2.2.2.2.2]; omega

end Pair

end At

/-! ## The result -/

/-- Row of sequence `b`, chunk `n`, row `r` of the chunk. -/
def rowOf (b : Fin 8) (n : ℕ) (r : Fin 128) : Fin 16384 :=
  ⟨2048 * b.val + (chunkRow n r).val, by have := b.isLt; have := (chunkRow n r).isLt; omega⟩

/-- Column of head `h`, element `e`. -/
def colOf (h : Fin 8) (e : Fin 64) : Fin 512 := ⟨64 * h.val + e.val, by have := h.isLt; have := e.isLt; omega⟩

/-- Head `h` of sequence `b` of an array of tokens, chunk by chunk. -/
def tokens (x : Vec Ideal S16384x512 .bf16) (b : Fin 8) (h : Fin 8) (n : ℕ) (r : Fin 128) (e : Fin 64) : EReal :=
  x (ix2 (rowOf b n r) (colOf h e))

/-- THE SPEC: the retention of head `h` of sequence `b` at row `a` of chunk `n`, element `e`. -/
def retention (q k v s : Vec Ideal S16384x512 .bf16) (ng nb : Vec Ideal S8x64 .f32) (b h : Fin 8) (n : ℕ) (a : Fin 128) (e : Fin 64) : EReal :=
  retNorm (retOut (decOf h.val) (xiOf h.val) (tokens q b h n) (tokens k b h n) (tokens v b h n)
      (retState (chunkDecay h.val) (zetaOf h.val) (tokens k b h) (tokens v b h) n) a)
    (fun e => ng (ix2 h e)) (fun e => nb (ix2 h e)) (tokens s b h n a e) e

/-- The kernel's result, entry by entry. -/
theorem kernel_apply (b h : Fin 8) (n : ℕ) (hn : n < 16) (a : Fin 128) (e : Fin 64) :
    (dats m 0 c).arrAt 10 cfg0.N (ix2 (rowOf b n a) (colOf h e))
      = retention (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b h n a e := by
  have hb := b.isLt
  have hh := h.isLt
  let t : Fin cfg0.N := ⟨4 * b.val + h.val / 2, by rw [N32]; omega⟩
  let p : Fin 4 := ⟨h.val / 2, by omega⟩
  let g : Fin 2 := ⟨h.val % 2, by omega⟩
  have ht4 : t.val / 4 = b.val := by show (4 * b.val + h.val / 2) / 4 = _; omega
  have htp : t.val % 4 = h.val / 2 := by show (4 * b.val + h.val / 2) % 4 = _; omega
  have hp : p.val = t.val % 4 := htp.symm
  have hR : ∀ n r, (rowOf b n r).val = 2048 * (t.val / 4) + (chunkRow n r).val := fun n r => by rw [ht4]; rfl
  have hg : ∀ g' : Fin 2, 2 * p.val + g'.val < 8 := fun g' => by have := g'.isLt; show 2 * (h.val / 2) + _ < 8; omega
  have hgh : 2 * p.val + g.val = h.val := by show 2 * (h.val / 2) + h.val % 2 = h.val; omega
  have hL : ∀ e, (colOf h e).val = 128 * (t.val % 4) + (lane g e).val := fun e => by
    rw [htp]; show 64 * h.val + e.val = 128 * (h.val / 2) + (64 * (h.val % 2) + e.val); omega
  have hdec : ∀ (g' : Fin 2) i j, iblk m c 4 t (ix3 g' i j) = decOf (2 * p.val + g'.val) i j := fun g' i j =>
    (blk4 m c t p hp g' i j ⟨_, hg g'⟩ rfl).trans (V_dec m c _ i j)
  have hxi : ∀ (g' : Fin 2) i d, iblk m c 5 t (ix3 0 i (lane g' d)) = xiOf (2 * p.val + g'.val) i := fun g' i d =>
    (blk5 m c t p hp i _).trans (V_xi m c p i g' d)
  have hz : ∀ (g' : Fin 2) j d, iblk m c 6 t (ix3 0 j (lane g' d)) = zetaOf (2 * p.val + g'.val) j := fun g' i d =>
    (blk6 m c t p hp i _).trans (V_zeta m c p i g' d)
  have hcd : ∀ (g' : Fin 2) d, iblk m c 7 t (ix3 0 0 (lane g' d)) = chunkDecay (2 * p.val + g'.val) := fun g' d =>
    (blk7 m c t p hp _).trans (V_cd m c p g' d)
  rw [arr_blk m c t (chunkRow n a) (lane g e) _ _ (hR n a) (hL e), Value.flushed10_A m c t]
  show out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t) (ix2 (chunkRow n a) (lane g e)) = _
  rw [out_block]
  refine (blockOut_apply (iblk m c 0 t) (iblk m c 1 t) (iblk m c 2 t) (iblk m c 3 t) (iblk m c 4 t) (iblk m c 5 t) (iblk m c 6 t) (iblk m c 7 t) (iblk m c 8 t) (iblk m c 9 t)
    (fun g' => decOf (2 * p.val + g'.val)) (fun g' => xiOf (2 * p.val + g'.val)) (fun g' => zetaOf (2 * p.val + g'.val)) (fun g' => chunkDecay (2 * p.val + g'.val))
    hdec hxi hz hcd n hn a g e).trans ?_
  have e0 : blockHead (iblk m c 0 t) g = tokens (m ((c : Thread nD τ).loc main_arg0)) b h :=
    funext fun n => funext fun r => funext fun e => blk0 m c t _ _ _ _ (hR n r) (hL e)
  have e1 : blockHead (iblk m c 1 t) g = tokens (m ((c : Thread nD τ).loc main_arg1)) b h :=
    funext fun n => funext fun r => funext fun e => blk1 m c t _ _ _ _ (hR n r) (hL e)
  have e2 : blockHead (iblk m c 2 t) g = tokens (m ((c : Thread nD τ).loc main_arg2)) b h :=
    funext fun n => funext fun r => funext fun e => blk2 m c t _ _ _ _ (hR n r) (hL e)
  have e3 : blockHead (iblk m c 3 t) g = tokens (m ((c : Thread nD τ).loc main_arg3)) b h :=
    funext fun n => funext fun r => funext fun e => blk3 m c t _ _ _ _ (hR n r) (hL e)
  have e8 : (fun e => iblk m c 8 t (ix3 0 0 (lane g e))) = fun e => (m ((c : Thread nD τ).loc main_arg4) : Vec Ideal S8x64 .f32) (ix2 h e) :=
    funext fun e => (blk8 m c t p hp _).trans (V_ng m c p g e h hgh.symm)
  have e9 : (fun e => iblk m c 9 t (ix3 0 0 (lane g e))) = fun e => (m ((c : Thread nD τ).loc main_arg5) : Vec Ideal S8x64 .f32) (ix2 h e) :=
    funext fun e => (blk9 m c t p hp _).trans (V_nb m c p g e h hgh.symm)
  rw [e0, e1, e2, e3, hgh]
  unfold retention
  exact congrArg₂ (fun x y => retNorm _ x y _ e) e8 e9

end Cert.Proof.Ret

end
-- ==== Proof.RetRun.lean ====
/-
  The retention reference's run, stated over one trip's step: the states a sequence goes through are `step`
  iterated from `initState`, and the result is read off the last one (`run_iter`).
-/
module

public import proofs.«01_k».proof.Proof.Gen.ReferenceIdeal.Run
public import proofs.«01_k».proof.Proof.Gen.ReferenceIdeal.Step

@[expose] public section

set_option maxRecDepth 8192

noncomputable section

namespace Cert.Proof.RetRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v33_3) = s.main_v33_3
  f_4 : V0 (Proc.devRef .tc main_v33_4) = s.main_v33_4
  f_0 : V0 (Proc.devRef .tc main_v33_0) = s.main_v33_0
  n_2 : V0 (Proc.devRef .tc main_v33_2) = constantI S_ 32 (BitVec.ofNat 32 j)
  k_1 : V0 (Proc.devRef .tc main_v33_1) = Cert.ReferenceIdeal.Step.K_main_v29 (F := F)

variable {V0 s j}

/-! One trip's step of the carried values is `step`, field by field; the counter steps to the next number. -/

theorem step_3 (h : Holds V0 s j) : step_main_v33_3 V0 = (step j s).main_v33_3 := by
  unfold step_main_v33_3 step Step.b8 Step.b7 Step.b6 Step.b5 Step.b4
  rw [h.f_3, h.f_0, h.n_2, h.k_1]
  rfl

theorem step_4 (h : Holds V0 s j) : step_main_v33_4 V0 = (step j s).main_v33_4 := by
  unfold step_main_v33_4 step Step.b14 Step.b9
  rw [h.f_3, h.f_4, h.n_2]
  rfl

theorem step_2 (h : Holds V0 s j) : step_main_v33_2 V0 = constantI S_ 32 (BitVec.ofNat 32 (j + 1)) := by
  unfold step_main_v33_2
  rw [h.n_2]
  funext i
  show BitVec.ofNat 32 j + 1#32 = BitVec.ofNat 32 (j + 1)
  simp only [BitVec.ofNat_add]

set_option maxRecDepth 8192 in
theorem out_main_v120_holds (h : Holds V0 s j) {x_main_arg0 : (⟨S16384x512, .bf16⟩ : BufTy).Contents (Elt F)} (h_main_arg0 : V0 (Proc.devRef .tc main_arg0) = x_main_arg0) {x_main_arg1 : (⟨S16384x512, .bf16⟩ : BufTy).Contents (Elt F)} (h_main_arg1 : V0 (Proc.devRef .tc main_arg1) = x_main_arg1) {x_main_arg2 : (⟨S16384x512, .bf16⟩ : BufTy).Contents (Elt F)} (h_main_arg2 : V0 (Proc.devRef .tc main_arg2) = x_main_arg2) {x_main_arg3 : (⟨S16384x512, .bf16⟩ : BufTy).Contents (Elt F)} (h_main_arg3 : V0 (Proc.devRef .tc main_arg3) = x_main_arg3) {x_main_arg4 : (⟨S8x64, .f32⟩ : BufTy).Contents (Elt F)} (h_main_arg4 : V0 (Proc.devRef .tc main_arg4) = x_main_arg4) {x_main_arg5 : (⟨S8x64, .f32⟩ : BufTy).Contents (Elt F)} (h_main_arg5 : V0 (Proc.devRef .tc main_arg5) = x_main_arg5) : out_main_v120 V0 = Cert.ReferenceIdeal.Step.R_main_v120 s x_main_arg0 x_main_arg1 x_main_arg2 x_main_arg3 x_main_arg4 x_main_arg5 := by
  unfold out_main_v120 Cert.ReferenceIdeal.Step.R_main_v120
  rw [h.f_4, h_main_arg0, h_main_arg1, h_main_arg2, h_main_arg3, h_main_arg4, h_main_arg5]
  try rfl

/-- One trip keeps the valuation holding: `step` of the state, the same set-up values, the next number. -/
theorem holds_step (h : Holds V0 s j) : Holds (STEP V0) (step j s) (j + 1) where
  f_3 := (STEP_main_v33_3 V0).trans (step_3 h)
  f_4 := (STEP_main_v33_4 V0).trans (step_4 h)
  n_2 := (STEP_main_v33_2 V0).trans (step_2 h)
  k_1 := (STEP_main_v33_1 V0).trans h.k_1
  f_0 := (STEP_main_v33_0 V0).trans h.f_0

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 16 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v120) = Cert.ReferenceIdeal.Step.R_main_v120 (it c 16) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 16
    ⟨(h c).1.trans (out_main_v120_holds hk (iter_main_arg0 m c 16) (iter_main_arg1 m c 16) (iter_main_arg2 m c 16) (iter_main_arg3 m c 16) (iter_main_arg4 m c 16) (iter_main_arg5 m c 16)), (h c).2.1, (h c).2.2.1, (h c).2.2.2.1, (h c).2.2.2.2.1, (h c).2.2.2.2.2.1, (h c).2.2.2.2.2.2⟩) (Value.run m ρ)

end Cert.Proof.RetRun

end
-- ==== Proof.RetRef.lean ====
/-
  The retention reference's result, entry by entry. Its loop carries each head's state from chunk to chunk and stacks the
  states the chunks start from; the operations after the loop read each chunk's output off that stack.
-/
module

public import proofs.«01_k».proof.Proof.RetHost
public import proofs.«01_k».proof.Proof.RetRun
public import Idealize.ShloMosaic.Lib.DynamicIndex

@[expose] public section

set_option maxRecDepth 16384

noncomputable section

open Idealize.ShloMosaic Idealize.ShloMosaic.TcCoe Idealize.SL.Sem Idealize.ShloMosaic.StableHlo

namespace Cert.Proof.RetRef

open Cert.ReferenceIdeal Cert.ReferenceIdeal.Gen
open Cert.ReferenceIdeal.Step (State step init)
open Cert.Proof.Ret (fpos fpos_eq logDecay chunkDecay xiOf zetaOf decOf tokens rowOf colOf retState retOut retNorm retention centred chunkRow chunkRow_val)

/-- An array of tokens by sequence, chunk, row, head and element. -/
def arr {F : FTy → Type} [FloatOps F] (x : (⟨S16384x512, .bf16⟩ : BufTy).Contents (Elt F)) : (⟨S8x16x128x8x64, .f32⟩ : BufTy).Contents (Elt F) :=
  shapeCast _ (shapeCast _ (extf .f32 (x) bitsLt_bf16_f32) shapeCasts_S16384x512_S8x2048x8x64) shapeCasts_S8x2048x8x64_S8x16x128x8x64

theorem arr_apply (x : Vec Ideal S16384x512 .bf16) (b : Fin 8) (n : Fin 16) (r : Fin 128) (h : Fin 8) (e : Fin 64) :
    arr (F := Ideal) x (ix5 b n r h e) = tokens x b h n.val r e := by
  have hn := n.isLt
  have hr := r.isLt
  have hh := h.isLt
  have he := e.isLt
  pointwise [arr]
  unfold tokens
  refine congrArg x (congrArg₂ ix2 (Fin.ext ?_) (Fin.ext ?_))
  · simp only [rowOf, chunkRow_val hn]
    omega
  · simp only [colOf]
    omega

/-- The decay inside a chunk. -/
def decTable {F : FTy → Type} [FloatOps F] : (⟨S8x128x128, .f32⟩ : BufTy).Contents (Elt F) :=
  (select (broadcastInDim S8x128x128 ![1, 2] bcast_S128x128_S8x128x128_1_2 (cmpi .sge (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (Host.exp (mulf (broadcastInDim S8x128x128 ![0, 1, 2] bcast_S8x1x1_S8x128x128_0_1_2 (broadcastInDim S8x1x1 ![0] bcast_S8_S8x1x1_0 (Host.log1p (Host.negf (Host.powf (broadcastInDim S8 ![] bcast_S_S8 (constant S_ .f32 0x40000000#32)) (subf (broadcastInDim S8 ![] bcast_S_S8 (constant S_ .f32 0xC0A00000#32)) (sitofp .f32 (iotaInDim S8 32 0)))))))) (broadcastInDim S8x128x128 ![0, 1, 2] bcast_S1x128x128_S8x128x128_0_1_2 (broadcastInDim S1x128x128 ![1, 2] bcast_S128x128_S1x128x128_1_2 (maximumf (subf (broadcastInDim S128x128 ![0, 1] bcast_S128x1_S128x128_0_1 (broadcastInDim S128x1 ![0] bcast_S128_S128x1_0 (sitofp .f32 (iotaInDim S128 32 0)))) (broadcastInDim S128x128 ![0, 1] bcast_S1x128_S128x128_0_1 (broadcastInDim S1x128 ![1] bcast_S128_S1x128_1 (sitofp .f32 (iotaInDim S128 32 0))))) (broadcastInDim S128x128 ![] bcast_S_S128x128 (constant S_ .f32 0x00000000#32))))))) (broadcastInDim S8x128x128 ![] bcast_S_S8x128x128 (id (constant S_ .f32 0x00000000#32))))

/-- The mask compares positions as integers. -/
theorem int_mask : ∀ i j : Fin 128, IntOp.cmpi CmpIPredicate.sge (BitVec.ofNat 32 i.val) (BitVec.ofNat 32 j.val) = if j.val ≤ i.val then 1#1 else 0#1 := by
  decide +kernel

theorem decTable_apply (h : Fin 8) (i j : Fin 128) : decTable (F := Ideal) (ix3 h i j) = decOf h.val i j := by
  pointwise [decTable]
  unfold decOf
  rw [int_mask]
  by_cases hij : j.val ≤ i.val
  · rw [if_pos hij, if_pos hij]
    rfl
  · rw [if_neg hij, if_neg hij]
    exact Ideal.ofBits_zero_f32

/-- The decay of a state read at a row, by row and head. -/
def xiTable {F : FTy → Type} [FloatOps F] : (⟨S128x8, .f32⟩ : BufTy).Contents (Elt F) :=
  (Host.exp (mulf (broadcastInDim S128x8 ![0, 1] bcast_S1x8_S128x8_0_1 (broadcastInDim S1x8 ![1] bcast_S8_S1x8_1 (Host.log1p (Host.negf (Host.powf (broadcastInDim S8 ![] bcast_S_S8 (constant S_ .f32 0x40000000#32)) (subf (broadcastInDim S8 ![] bcast_S_S8 (constant S_ .f32 0xC0A00000#32)) (sitofp .f32 (iotaInDim S8 32 0)))))))) (broadcastInDim S128x8 ![0, 1] bcast_S128x1_S128x8_0_1 (broadcastInDim S128x1 ![0] bcast_S128_S128x1_0 (addf (sitofp .f32 (iotaInDim S128 32 0)) (broadcastInDim S128 ![] bcast_S_S128 (constant S_ .f32 0x3F800000#32)))))))

theorem xiTable_apply (i : Fin 128) (h : Fin 8) : xiTable (F := Ideal) (ix2 i h) = xiOf h.val i := by
  pointwise [xiTable]
  rfl

/-- The decay of a row's key, by row and head. -/
theorem zetaTable_apply (i : Fin 128) (h : Fin 8) : Step.K_main_v21 (F := Ideal) (ix2 i h) = zetaOf h.val i := by
  pointwise [Step.K_main_v21, Step.K_main_v20, Step.K_main_v19, Step.K_main_v18, Step.K_main_v17, Step.K_main_v16, Step.K_main_v15, Step.K_main_cst_1, Step.K_main_v14, Step.K_main_v13, Step.K_main_v10, Step.K_main_v9, Step.K_main_v8, Step.K_main_v7, Step.K_main_v6, Step.K_main_v5, Step.K_main_v4, Step.K_main_cst, Step.K_main_cst_0]
  rfl

theorem chunkTable_apply (h : Fin 8) : Step.K_main_v28 (F := Ideal) (ix1 h) = chunkDecay h.val := by
  pointwise [Step.K_main_v28, Step.K_main_v27, Step.K_main_v26, Step.K_main_cst_2, Step.K_main_v10, Step.K_main_v9, Step.K_main_v8, Step.K_main_v7, Step.K_main_v6, Step.K_main_v5, Step.K_main_v4, Step.K_main_cst, Step.K_main_cst_0]
  rfl

/-- One chunk's contribution to the state. -/
theorem kv_apply (k v : Vec Ideal S16384x512 .bf16) (n : Fin 16) (b h : Fin 8) (d e : Fin 64) :
    Step.A_main_v31 (F := Ideal) k v (ix5 n b h d e)
      = ∑ j : Fin 128, tokens k b h n.val j d * zetaOf h.val j * tokens v b h n.val j e := by
  have e1 : Step.A_main_v11 (F := Ideal) k v = arr (F := Ideal) k := rfl
  have e2 : Step.A_main_v12 (F := Ideal) k v = arr (F := Ideal) v := rfl
  unfold Step.A_main_v31 Step.A_main_v25 Step.A_main_v24
  rw [e1, e2]
  pointwise [Step.K_main_v23, Step.K_main_v22]
  refine Finset.sum_congr rfl fun j _ => ?_
  rw [arr_apply, arr_apply, zetaTable_apply]

/-! ## The loop -/

variable (s : State Ideal) (j : ℕ)

theorem fits (hj : j < 16) : S16x8x8x64x64.Slices ![j, 0, 0, 0, 0] S1x8x8x64x64 := by
  refine ⟨rfl, fun a => ?_⟩
  match a with
  | ⟨0, _⟩ => show j + 1 ≤ 16; omega
  | ⟨1, _⟩ => show 0 + 8 ≤ 8; omega
  | ⟨2, _⟩ => show 0 + 8 ≤ 8; omega
  | ⟨3, _⟩ => show 0 + 64 ≤ 64; omega
  | ⟨4, _⟩ => show 0 + 64 ≤ 64; omega

/-- A trip reads the contribution its number names. -/
theorem b5_apply (hj : j < 16) (b h : Fin 8) (d e : Fin 64) : Step.b5 j s (ix4 b h d e) = s.main_v33_0 (ix5 ⟨j, hj⟩ b h d e) := by
  unfold Step.b5 Step.b4
  rw [Host.dynamicSlice_eq_extractStridedSlice _ _ _ ![j, 0, 0, 0, 0] _ (fits j hj) fun a => by
    match a with
    | ⟨0, _⟩ => exact toInt_ofNat_of_lt (by omega)
    | ⟨1, _⟩ => rfl
    | ⟨2, _⟩ => rfl
    | ⟨3, _⟩ => rfl
    | ⟨4, _⟩ => rfl]
  pointwise []

/-- One trip of a head's state. -/
theorem b8_apply (hj : j < 16) (b h : Fin 8) (d e : Fin 64) :
    Step.b8 j s (ix4 b h d e) = chunkDecay h.val * s.main_v33_3 (ix4 b h d e) + s.main_v33_0 (ix5 ⟨j, hj⟩ b h d e) := by
  pointwise [Step.b8, Step.b7, Step.b6, Step.K_main_v29]
  rw [b5_apply s j hj, chunkTable_apply]

/-- A trip stacks the state it starts from at its number and keeps the rest of the stack. -/
theorem b14_apply (hj : j < 16) (n : Fin 16) (b h : Fin 8) (d e : Fin 64) :
    Step.b14 j s (ix5 n b h d e) = if n.val = j then s.main_v33_3 (ix4 b h d e) else s.main_v33_4 (ix5 n b h d e) := by
  unfold Step.b14
  rw [Host.dynamicUpdateSlice_eq_updateSlice _ _ _ _ ![j, 0, 0, 0, 0] (fun a => by
    match a with
    | ⟨0, _⟩ =>
      show (min (max ((BitVec.ofNat 32 j).toInt) 0) ((16 - 1 : ℕ) : ℤ)).toNat = j
      rw [toInt_ofNat_of_lt (by omega)]
      omega
    | ⟨1, _⟩ => rfl
    | ⟨2, _⟩ => rfl
    | ⟨3, _⟩ => rfl
    | ⟨4, _⟩ => rfl) (fits j hj)]
  pointwise [Step.b9]
  by_cases hn : n.val = j
  · rw [if_pos hn, dif_pos (by omega)]
  · rw [if_neg hn, dif_neg (by omega)]

/-- The states of the loop: `step` iterated. -/
def iter (s0 : State Ideal) : ℕ → State Ideal
  | 0 => s0
  | n + 1 => step n (iter s0 n)

section Iter

variable (k v : Vec Ideal S16384x512 .bf16)

theorem iter_kv : ∀ n, (iter (init k v) n).main_v33_0 = Step.A_main_v31 (F := Ideal) k v
  | 0 => rfl
  | n + 1 => iter_kv n

/-- Before trip `n` the loop carries each head's state before chunk `n`. -/
theorem iter_state (b h : Fin 8) (d e : Fin 64) : ∀ n, n ≤ 16 → (iter (init k v) n).main_v33_3 (ix4 b h d e)
    = retState (chunkDecay h.val) (zetaOf h.val) (tokens k b h) (tokens v b h) n d e
  | 0, _ => by
    show Step.K_main_v30 (F := Ideal) (ix4 b h d e) = 0
    pointwise [Step.K_main_v30, Step.K_main_cst_3]
  | n + 1, hn => by
    show (step n (iter (init k v) n)).main_v33_3 (ix4 b h d e) = _
    rw [Step.step_main_v33_3, b8_apply _ n (by omega), iter_state b h d e n (by omega), iter_kv, kv_apply]
    rfl

/-- Before trip `j` the stack holds the states before the chunks gone through. -/
theorem iter_stack (b h : Fin 8) (d e : Fin 64) (n : Fin 16) : ∀ j, j ≤ 16 → n.val < j → (iter (init k v) j).main_v33_4 (ix5 n b h d e)
    = retState (chunkDecay h.val) (zetaOf h.val) (tokens k b h) (tokens v b h) n.val d e
  | 0, _, hn => absurd hn (Nat.not_lt_zero _)
  | j + 1, hj, hn => by
    show (step j (iter (init k v) j)).main_v33_4 (ix5 n b h d e) = _
    rw [Step.step_main_v33_4, b14_apply _ j (by omega)]
    by_cases e' : n.val = j
    · rw [if_pos e', iter_state k v b h d e j (by omega), e']
    · rw [if_neg e', iter_stack b h d e n j (by omega) (by omega)]

end Iter

/-! ## The operations after the loop -/

section Result

variable {F : FTy → Type} [FloatOps F]

/-- The retention of every head before the norm. -/
def outs (R : (⟨S16x8x8x64x64, .f32⟩ : BufTy).Contents (Elt F)) (q k v : (⟨S16384x512, .bf16⟩ : BufTy).Contents (Elt F)) : (⟨S8x16x128x8x64, .f32⟩ : BufTy).Contents (Elt F) :=
  addf (transpose S8x16x128x8x64 [0, 1, 4, 2, 3] (Host.dotGeneral dot_S8x16x128x8x64_S8x16x8x128x128_S8x16x8x64x128_2_4_4_3_013_012 none (arr v) (mulf (Host.dotGeneral dot_S8x16x128x8x64_S8x16x128x8x64_S8x16x8x128x128_4_4_2_2_013_013 none (arr q) (arr k)) (broadcastInDim S8x16x8x128x128 ![0, 1, 2, 3, 4] bcast_S1x1x8x128x128_S8x16x8x128x128_0_1_2_3_4 (broadcastInDim S1x1x8x128x128 ![2, 3, 4] bcast_S8x128x128_S1x1x8x128x128_2_3_4 (decTable (F := F)))))) transposes_S8x16x8x64x128_S8x16x128x8x64_0_1_4_2_3)
    (transpose S8x16x128x8x64 [0, 1, 4, 2, 3] (Host.dotGeneral dot_S8x16x8x64x64_S8x16x128x8x64_S8x16x8x64x128_3_4_4_2_012_013 none (transpose S8x16x8x64x64 [1, 0, 2, 3, 4] R transposes_S16x8x8x64x64_S8x16x8x64x64_1_0_2_3_4) (mulf (arr q) (broadcastInDim S8x16x128x8x64 ![0, 1, 2, 3, 4] bcast_S1x1x128x8x1_S8x16x128x8x64_0_1_2_3_4 (broadcastInDim S1x1x128x8x1 ![2, 3] bcast_S128x8_S1x1x128x8x1_2_3 (xiTable (F := F)))))) transposes_S8x16x8x64x128_S8x16x128x8x64_0_1_4_2_3)

/-- The mean over a head's elements. -/
def mean (x : (⟨S8x2048x8x64, .f32⟩ : BufTy).Contents (Elt F)) : (⟨S8x2048x8x1, .f32⟩ : BufTy).Contents (Elt F) :=
  Host.divf (broadcastInDim S8x2048x8x1 ![0, 1, 2] bcast_S8x2048x8_S8x2048x8x1_0_1_2 (Host.reduceAdd x (constant S_ .f32 0x00000000#32) reducesTo_S8x2048x8x64_S8x2048x8_d3 h_S_)) (broadcastInDim S8x2048x8x1 ![] bcast_S_S8x2048x8x1 (constant S_ .f32 0x42800000#32))

def centre (x : (⟨S8x2048x8x64, .f32⟩ : BufTy).Contents (Elt F)) : (⟨S8x2048x8x64, .f32⟩ : BufTy).Contents (Elt F) :=
  subf x (broadcastInDim S8x2048x8x64 ![0, 1, 2, 3] bcast_S8x2048x8x1_S8x2048x8x64_0_1_2_3 (mean x))

def norm (x : (⟨S8x2048x8x64, .f32⟩ : BufTy).Contents (Elt F)) (g b : (⟨S8x64, .f32⟩ : BufTy).Contents (Elt F)) : (⟨S8x2048x8x64, .f32⟩ : BufTy).Contents (Elt F) :=
  addf (mulf (mulf (centre x) (broadcastInDim S8x2048x8x64 ![0, 1, 2, 3] bcast_S8x2048x8x1_S8x2048x8x64_0_1_2_3 (Host.rsqrt (addf (mean (mulf (centre x) (centre x))) (broadcastInDim S8x2048x8x1 ![] bcast_S_S8x2048x8x1 (constant S_ .f32 0x358637BD#32)))))) (broadcastInDim S8x2048x8x64 ![0, 1, 2, 3] bcast_S1x1x8x64_S8x2048x8x64_0_1_2_3 (broadcastInDim S1x1x8x64 ![2, 3] bcast_S8x64_S1x1x8x64_2_3 g))) (broadcastInDim S8x2048x8x64 ![0, 1, 2, 3] bcast_S1x1x8x64_S8x2048x8x64_0_1_2_3 (broadcastInDim S1x1x8x64 ![2, 3] bcast_S8x64_S1x1x8x64_2_3 b))

theorem result_eq (s : State F) (q k v sg : (⟨S16384x512, .bf16⟩ : BufTy).Contents (Elt F)) (g b : (⟨S8x64, .f32⟩ : BufTy).Contents (Elt F)) :
    Step.R_main_v120 s q k v sg g b = truncf .bf16 (mulf (extf .f32 sg bitsLt_bf16_f32) (shapeCast _ (norm (shapeCast _ (outs s.main_v33_4 q k v) shapeCasts_S8x16x128x8x64_S8x2048x8x64) g b) shapeCasts_S8x2048x8x64_S16384x512)) bitsLt_bf16_f32 := rfl

end Result

theorem outs_apply (R : Vec Ideal S16x8x8x64x64 .f32) (q k v : Vec Ideal S16384x512 .bf16) (b : Fin 8) (n : Fin 16) (i : Fin 128) (h : Fin 8) (e : Fin 64) :
    outs (F := Ideal) R q k v (ix5 b n i h e)
      = retOut (decOf h.val) (xiOf h.val) (tokens q b h n.val) (tokens k b h n.val) (tokens v b h n.val) (fun d e => R (ix5 n b h d e)) i e := by
  pointwise [outs]
  unfold retOut
  refine congrArg₂ (· + ·) (Finset.sum_congr rfl fun j _ => ?_) (Finset.sum_congr rfl fun d _ => ?_)
  · rw [decTable_apply, arr_apply, mul_comm]
    refine congrArg (fun s => s * decOf h.val i j * tokens v b h n.val j e) (Finset.sum_congr rfl fun d _ => ?_)
    rw [arr_apply, arr_apply]
  · rw [xiTable_apply, arr_apply, mul_comm]

theorem ofBits_64 : Ideal.ofBits .f32 0x42800000#32 = ((64 : ℝ) : EReal) := by
  simp [Ideal.ofBits, Ideal.ieee]
  rw [← EReal.coe_mul]
  norm_num

theorem ofBits_inv64 : Ideal.ofBits .f32 0x3C800000#32 = ((1 / 64 : ℝ) : EReal) := by
  simp [Ideal.ofBits, Ideal.ieee]
  rw [← EReal.coe_mul]
  norm_num

theorem mean_apply (x : Vec Ideal S8x2048x8x64 .f32) (b : Fin 8) (r : Fin 2048) (h : Fin 8) :
    mean (F := Ideal) x (ix4 b r h 0) = (∑ d : Fin 64, x (ix4 b r h d)) * Ideal.ofBits .f32 0x3C800000#32 := by
  pointwise [mean]
  rw [ofBits_64, Ideal.div_coe (by norm_num), ofBits_inv64]

theorem norm_apply (x : Vec Ideal S8x2048x8x64 .f32) (g c : Vec Ideal S8x64 .f32) (b : Fin 8) (r : Fin 2048) (h : Fin 8) (e : Fin 64) (s : EReal) :
    s * norm (F := Ideal) x g c (ix4 b r h e)
      = retNorm (fun d => x (ix4 b r h d)) (fun d => g (ix2 h d)) (fun d => c (ix2 h d)) s e := by
  have hc : ∀ d, centre (F := Ideal) x (ix4 b r h d) = centred (fun d => x (ix4 b r h d)) d := fun d => by
    pointwise [centre]
    rw [mean_apply]
    rfl
  pointwise [norm]
  rw [mean_apply, hc]
  have hm : ∀ d, (mulf (centre (F := Ideal) x) (centre (F := Ideal) x) : FVec Ideal S8x2048x8x64 .f32) (ix4 b r h d)
      = centred (fun d => x (ix4 b r h d)) d * centred (fun d => x (ix4 b r h d)) d := fun d => by
    rw [← hc]
    rfl
  rw [Finset.sum_congr rfl fun d _ => hm d]
  rfl

theorem result_apply (k v q sg : Vec Ideal S16384x512 .bf16) (g c : Vec Ideal S8x64 .f32) (b h : Fin 8) (n : Fin 16) (a : Fin 128) (e : Fin 64) :
    Step.R_main_v120 (F := Ideal) (iter (init k v) 16) q k v sg g c (ix2 (rowOf b n.val a) (colOf h e))
      = retention q k v sg g c b h n.val a e := by
  have hn := n.isLt
  have ha := a.isLt
  have he := e.isLt
  have hr : (rowOf b n.val a).val = 2048 * b.val + (128 * n.val + a.val) := by
    show 2048 * b.val + (chunkRow n.val a).val = _
    rw [chunkRow_val hn]
  let r : Fin 2048 := ⟨128 * n.val + a.val, by omega⟩
  have hx : ∀ d, shapeCast S8x2048x8x64 (outs (F := Ideal) (iter (init k v) 16).main_v33_4 q k v) shapeCasts_S8x16x128x8x64_S8x2048x8x64 (ix4 b r h d)
      = retOut (decOf h.val) (xiOf h.val) (tokens q b h n.val) (tokens k b h n.val) (tokens v b h n.val)
          (retState (chunkDecay h.val) (zetaOf h.val) (tokens k b h) (tokens v b h) n.val) a d := fun d => by
    have h1 : (⟨r.val / 128, by omega⟩ : Fin 16) = n := Fin.ext (by show (128 * n.val + a.val) / 128 = _; omega)
    have h2 : (⟨r.val % 128, by omega⟩ : Fin 128) = a := Fin.ext (by show (128 * n.val + a.val) % 128 = _; omega)
    pointwise []
    rw [h1, h2, outs_apply]
    refine congrArg (fun s => retOut _ _ _ _ _ s a d) (funext fun d => funext fun e => ?_)
    exact iter_stack k v b h d e n 16 le_rfl hn
  rw [result_eq]
  pointwise []
  have i1 : (⟨(rowOf b n.val a).val / 2048, by omega⟩ : Fin 8) = b := Fin.ext (by show (rowOf b n.val a).val / 2048 = _; omega)
  have i2 : (⟨(rowOf b n.val a).val % 2048, by omega⟩ : Fin 2048) = r := Fin.ext (by show (rowOf b n.val a).val % 2048 = 128 * n.val + a.val; omega)
  have i3 : (⟨(colOf h e).val / 64, by omega⟩ : Fin 8) = h := Fin.ext (by show (64 * h.val + e.val) / 64 = _; omega)
  have i4 : (⟨(colOf h e).val % 64, by omega⟩ : Fin 64) = e := Fin.ext (by show (64 * h.val + e.val) % 64 = _; omega)
  rw [i1, i2, i3, i4, norm_apply]
  rw [funext hx]
  rfl

end Cert.Proof.RetRef

end
-- ==== Proof.RetEq.lean ====
/-
  The retention's claim of equality: from launches that agree on the arguments, the kernel's result and the reference's are
  the same array, entry by entry the spec `retention`.
-/
module

public import proofs.«01_k».proof.Defs
public import proofs.«01_k».proof.Proof.RetRef

@[expose] public section

set_option maxRecDepth 16384

noncomputable section

open Idealize.ShloMosaic Idealize.ShloMosaic.TcCoe Idealize.SL.Sem

namespace Cert.Proof.RetEq

open Cert.Proof.Ret (rowOf colOf retention chunkRow chunkRow_val kernel_apply)

/-- Every index of the result is some sequence, chunk, row, head and element. -/
theorem exists_index (i : Cert.KernelIdeal.S16384x512.Idx) :
    ∃ (b h : Fin 8) (n : Fin 16) (a : Fin 128) (e : Fin 64), i = ix2 (rowOf b n.val a) (colOf h e) := by
  have h0 : (i 0).val < 16384 := (i 0).isLt
  have h1 : (i 1).val < 512 := (i 1).isLt
  refine ⟨⟨(i 0).val / 2048, by omega⟩, ⟨(i 1).val / 64, by omega⟩, ⟨(i 0).val % 2048 / 128, by omega⟩, ⟨(i 0).val % 128, by omega⟩, ⟨(i 1).val % 64, by omega⟩, ?_⟩
  refine (ix2_eta i).symm.trans ?_
  refine congrArg₂ ix2 (Fin.ext ?_) (Fin.ext ?_)
  · show (i 0).val = 2048 * ((i 0).val / 2048) + (chunkRow ((i 0).val % 2048 / 128) _).val
    rw [chunkRow_val (by omega)]
    show (i 0).val = 2048 * ((i 0).val / 2048) + (128 * ((i 0).val % 2048 / 128) + (i 0).val % 128)
    omega
  · show (i 1).val = 64 * ((i 1).val / 64) + (i 1).val % 64
    omega

/-- The kernel's result is what the reference computes of the kernel's arguments. -/
theorem results (m : (ℓ : Loc Cert.KernelIdeal.nD Cert.KernelIdeal.τ Cert.KernelIdeal.sig) → Buf (Elt Ideal) ℓ) (c : Dev Cert.KernelIdeal.nD)
    (q k v s : Vec Ideal Cert.KernelIdeal.S16384x512 .bf16) (g b : Vec Ideal Cert.KernelIdeal.S8x64 .f32)
    (hq : q = m ((c.tc : Thread Cert.KernelIdeal.nD Cert.KernelIdeal.τ).loc Cert.KernelIdeal.main_arg0))
    (hk : k = m ((c.tc : Thread Cert.KernelIdeal.nD Cert.KernelIdeal.τ).loc Cert.KernelIdeal.main_arg1))
    (hv : v = m ((c.tc : Thread Cert.KernelIdeal.nD Cert.KernelIdeal.τ).loc Cert.KernelIdeal.main_arg2))
    (hs : s = m ((c.tc : Thread Cert.KernelIdeal.nD Cert.KernelIdeal.τ).loc Cert.KernelIdeal.main_arg3))
    (hg : g = m ((c.tc : Thread Cert.KernelIdeal.nD Cert.KernelIdeal.τ).loc Cert.KernelIdeal.main_arg4))
    (hb : b = m ((c.tc : Thread Cert.KernelIdeal.nD Cert.KernelIdeal.τ).loc Cert.KernelIdeal.main_arg5)) :
    Cert.ReferenceIdeal.Step.R_main_v120 (F := Ideal) (RetRef.iter (Cert.ReferenceIdeal.Step.init k v) 16) q k v s g b
      = (Cert.KernelIdeal.Gen.dats m 0 c).arrAt 10 Cert.KernelIdeal.cfg0.N := by
  subst hq hk hv hs hg hb
  funext i
  obtain ⟨b, h, n, a, e, rfl⟩ := exists_index i
  exact (RetRef.result_apply _ _ _ _ _ _ b h n a e).trans (kernel_apply m c b h n.val n.isLt a e).symm

theorem algebraic : Cert.algebraic_KernelIdeal_ReferenceIdeal := by
  intro m ρ m' ρ' _ hag
  refine ⟨fun c => (Cert.KernelIdeal.Gen.dats m 0 c).arrAt 10 Cert.KernelIdeal.cfg0.N, Cert.KernelIdeal.Value.run_blocks m ρ, ?_⟩
  refine (θ_run _ _ _).mono (fun _ h c => ⟨(h c).1.trans ?_, (h c).2⟩)
    (RetRun.run_iter m' ρ' (fun c => RetRef.iter (RetRun.initState m' c)) (fun _ => rfl) (fun _ _ => rfl))
  obtain ⟨hq, hk, hv, hs, hg, hb⟩ := hag c
  exact results m c _ _ _ _ _ _ hq hk hv hs hg hb

end Cert.Proof.RetEq

end
-- ==== Proof.PostSpec.lean ====
/-
  The rest of the layer, one token at a time: the spec to which both the kernel's result and the reference's are reduced.
  Every function here takes the token's rows and gives one lane of the row it computes.
-/
module

public import Idealize.ShloMosaic.Lib.Pointwise

@[expose] public section

noncomputable section

open Idealize.ShloMosaic

namespace Cert.Proof.Post

/-- The first 512 lanes of 1024. -/
def lo (k : Fin 512) : Fin 1024 := ⟨k.val, by have := k.isLt; omega⟩

/-- The last 512 lanes of 1024. -/
def hi (k : Fin 512) : Fin 1024 := ⟨512 + k.val, by have := k.isLt; omega⟩

/-- A sum over 1024 lanes is one over the first 512 and one over the last. -/
theorem sum_halves (f : Fin 1024 → EReal) : ∑ x, f x = ∑ k, f (lo k) + ∑ k, f (hi k) :=
  Fin.sum_univ_add (a := 512) (b := 512) f

/-- A row times a matrix. -/
def mv {n k : ℕ} (v : Fin n → EReal) (w : Fin n → Fin k → EReal) (l : Fin k) : EReal := ∑ a, v a * w a l

/-- A row divided by its root mean square, times a gain. -/
def rms (v g : Fin 1024 → EReal) (l : Fin 1024) : EReal :=
  v l * Ideal.rsqrt (Ideal.div (∑ j, v j * v j) (Ideal.ofBits .f32 0x44800000#32) + Ideal.ofBits .f32 0x358637BD#32) * g l

/-- The output projection: the retention heads meet the first 512 rows of the weights, the attention heads the last. -/
def mix (yr yd : Fin 512 → EReal) (w : Fin 1024 → Fin 1024 → EReal) (l : Fin 1024) : EReal :=
  ∑ k, yr k * w (lo k) l + ∑ k, yd k * w (hi k) l

/-- The residual stream after the mixers. -/
def resid1 (x : Fin 1024 → EReal) (yr yd : Fin 512 → EReal) (w : Fin 1024 → Fin 1024 → EReal) (g : Fin 1024 → EReal) (l : Fin 1024) : EReal :=
  x l + rms (mix yr yd w) g l

/-- The hidden row of the feed-forward block: the gate's row times its logistic, times the other row. -/
def hidden (h : Fin 1024 → EReal) (wg wu : Fin 1024 → Fin 2816 → EReal) (l : Fin 2816) : EReal :=
  mv h wg l * Ideal.logistic (mv h wg l) * mv h wu l

/-- The residual stream after the feed-forward block. -/
def resid2 (x1 g2 : Fin 1024 → EReal) (wg wu : Fin 1024 → Fin 2816 → EReal) (wd : Fin 2816 → Fin 1024 → EReal) (g3 : Fin 1024 → EReal)
    (l : Fin 1024) : EReal :=
  x1 l + rms (mv (hidden (rms x1 g2) wg wu) wd) g3 l

/-- The per-layer embedding, gated by the residual stream. -/
def gated (x2 : Fin 1024 → EReal) (p : Fin 256 → EReal) (wpu : Fin 256 → Fin 1024 → EReal) (wpg : Fin 1024 → Fin 1024 → EReal)
    (l : Fin 1024) : EReal :=
  Ideal.logistic (mv x2 wpg l) * mv p wpu l

/-- The residual stream after the embedding. -/
def resid3 (x2 : Fin 1024 → EReal) (p : Fin 256 → EReal) (wpu : Fin 256 → Fin 1024 → EReal) (wpg : Fin 1024 → Fin 1024 → EReal)
    (g4 : Fin 1024 → EReal) (l : Fin 1024) : EReal :=
  x2 l + rms (gated x2 p wpu wpg) g4 l

/-- The rest of the layer for one token: mixers, feed-forward block, embedding. -/
def postRow (x : Fin 1024 → EReal) (yr yd : Fin 512 → EReal) (p : Fin 256 → EReal) (wo : Fin 1024 → Fin 1024 → EReal) (g1 g2 : Fin 1024 → EReal)
    (wg wu : Fin 1024 → Fin 2816 → EReal) (wd : Fin 2816 → Fin 1024 → EReal) (g3 : Fin 1024 → EReal)
    (wpu : Fin 256 → Fin 1024 → EReal) (wpg : Fin 1024 → Fin 1024 → EReal) (g4 : Fin 1024 → EReal) : Fin 1024 → EReal :=
  resid3 (resid2 (resid1 x yr yd wo g1) g2 wg wu wd g3) p wpu wpg g4

end Cert.Proof.Post

end
-- ==== Proof.PostPay.lean ====
/-
  One block of the kernel: what its stored value holds at a row and a lane, as the spec of that row.
-/
module

public import proofs.«01_k».proof.Proof.Gen.Kernel2Ideal.Value
public import proofs.«01_k».proof.Proof.PostSpec

@[expose] public section

set_option maxRecDepth 16384

noncomputable section

open Idealize.ShloMosaic

namespace Cert.Proof.Post

open Cert.Kernel2Ideal Cert.Kernel2Ideal.Gen

theorem pay2_apply (x : Vec Ideal S512x1024 .f32) (yr yd : Vec Ideal S512x512 .bf16) (wt wb : Vec Ideal S512x1024 .bf16) (g : Vec Ideal S1x1024 .f32)
    (r : Fin 512) (l : Fin 1024) :
    k0_pay2 (F := Ideal) x yr wt yd wb g (ix2 r l)
      = x (ix2 r l) + rms (fun l => ∑ k, yr (ix2 r k) * wt (ix2 k l) + ∑ k, yd (ix2 r k) * wb (ix2 k l)) (fun l => g (ix2 0 l)) l := by
  pointwise [k0_pay2]
  rfl

theorem pay3_apply (g : Vec Ideal S1x1024 .f32) (l : Fin 1024) : k0_pay3 (F := Ideal) g (ix2 0 l) = g (ix2 0 l) := by
  pointwise [k0_pay3]

theorem pay7_apply (x1 : Vec Ideal S512x1024 .f32) (g2 : Vec Ideal S1x1024 .f32) (v36 : Vec Ideal S512x1024 .f32)
    (wg wu : Vec Ideal S1024x2816 .bf16) (wd : Vec Ideal S2816x1024 .bf16) (g3 : Vec Ideal S1x1024 .f32) (r : Fin 512) (l : Fin 1024) :
    k0_pay7 (F := Ideal) x1 g2 v36 wg wu wd g3 (ix2 r l) = k0_pay5 (F := Ideal) x1 g2 v36 wg wu wd g3 (ix2 r l) := rfl

theorem pay8_apply (w : Vec Ideal S1024x1024 .bf16) (k l : Fin 1024) : k0_pay8 (F := Ideal) w (ix2 k l) = w (ix2 k l) := by
  pointwise [k0_pay8]

theorem pay4_apply (x : Vec Ideal S512x1024 .f32) (yr yd : Vec Ideal S512x512 .bf16) (wt wb : Vec Ideal S512x1024 .bf16) (g : Vec Ideal S1x1024 .f32)
    (x1 : Vec Ideal S512x1024 .f32) (hx : k0_pay2 (F := Ideal) x yr wt yd wb g = x1) (r : Fin 512) (l : Fin 1024) :
    k0_pay4 (F := Ideal) x yr wt yd wb g (ix2 r l)
      = x1 (ix2 r l) * Ideal.rsqrt (Ideal.div (∑ j, x1 (ix2 r j) * x1 (ix2 r j)) (Ideal.ofBits .f32 0x44800000#32) + Ideal.ofBits .f32 0x358637BD#32) := by
  unfold k0_pay4
  rw [hx]
  pointwise []

theorem pay5_apply (x1 : Vec Ideal S512x1024 .f32) (g2 : Vec Ideal S1x1024 .f32) (v36 : Vec Ideal S512x1024 .f32)
    (wg wu : Vec Ideal S1024x2816 .bf16) (wd : Vec Ideal S2816x1024 .bf16) (g3 : Vec Ideal S1x1024 .f32) (r : Fin 512) (l : Fin 1024) :
    k0_pay5 (F := Ideal) x1 g2 v36 wg wu wd g3 (ix2 r l)
      = x1 (ix2 r l) + rms (mv (hidden (fun l => v36 (ix2 r l) * g2 (ix2 0 l)) (fun k j => wg (ix2 k j)) (fun k j => wu (ix2 k j))) (fun k j => wd (ix2 k j)))
          (fun l => g3 (ix2 0 l)) l := by
  pointwise [k0_pay5]
  rfl

theorem pay1_apply (x2 e : Vec Ideal S512x1024 .f32) (x2' : Vec Ideal S512x1024 .bf16) (w : Vec Ideal S1024x1024 .bf16) (g : Vec Ideal S1x1024 .f32)
    (r : Fin 512) (l : Fin 1024) :
    k0_pay1 (F := Ideal) x2 e x2' w g (ix2 r l)
      = x2 (ix2 r l) + rms (fun l => Ideal.logistic (mv (fun k => x2' (ix2 r k)) (fun k j => w (ix2 k j)) l) * e (ix2 r l)) (fun l => g (ix2 0 l)) l := by
  pointwise [k0_pay1]
  rfl

theorem pay6_apply (p : Vec Ideal S512x256 .f32) (w : Vec Ideal S256x1024 .bf16) (r : Fin 512) (l : Fin 1024) :
    k0_pay6 (F := Ideal) p w (ix2 r l) = mv (fun k => p (ix2 r k)) (fun k j => w (ix2 k j)) l := by
  pointwise [k0_pay6]
  rfl

theorem off_zero : (![0, 0] : Fin 2 → Nat) = fun _ => 0 := by decide

/-- The first half of the output weights, loaded. -/
theorem ld_top (w : Vec Ideal S1024x1024 .bf16) (k : Fin 512) (l : Fin 1024) : View.ld w r0_2 (ix2 k l) = w (ix2 (lo k) l) :=
  congrArg w (funext fun a => Fin.ext (match a with
    | ⟨0, _⟩ => by show 0 + 1 * k.val = k.val; omega
    | ⟨1, _⟩ => by show 0 + 1 * l.val = l.val; omega))

/-- The second half of the output weights, loaded. -/
theorem ld_bot (w : Vec Ideal S1024x1024 .bf16) (k : Fin 512) (l : Fin 1024) : View.ld w r0_3 (ix2 k l) = w (ix2 (hi k) l) :=
  congrArg w (funext fun a => Fin.ext (match a with
    | ⟨0, _⟩ => by show 512 + 1 * k.val = 512 + k.val; omega
    | ⟨1, _⟩ => by show 0 + 1 * l.val = l.val; omega))

/-- What a block of the result holds, from the blocks it is computed of. -/
theorem out_apply (x0 : Vec Ideal S512x1024 .f32) (x1 x2 : Vec Ideal S512x512 .bf16) (x3 : Vec Ideal S512x256 .f32)
    (x4 : Vec Ideal S1024x1024 .bf16) (x5 x6 : Vec Ideal S1x1024 .f32) (x7 x8 : Vec Ideal S1024x2816 .bf16) (x9 : Vec Ideal S2816x1024 .bf16)
    (x10 : Vec Ideal S1x1024 .f32) (x11 : Vec Ideal S256x1024 .bf16) (x12 : Vec Ideal S1024x1024 .bf16) (x13 : Vec Ideal S1x1024 .f32)
    (r : Fin 512) (l : Fin 1024) :
    out0_14 (F := Ideal) x0 x1 x2 x3 x4 x5 x6 x7 x8 x9 x10 x11 x12 x13 (ix2 r l)
      = postRow (fun l => x0 (ix2 r l)) (fun k => x1 (ix2 r k)) (fun k => x2 (ix2 r k)) (fun k => x3 (ix2 r k)) (fun k j => x4 (ix2 k j))
          (fun l => x5 (ix2 0 l)) (fun l => x6 (ix2 0 l)) (fun k j => x7 (ix2 k j)) (fun k j => x8 (ix2 k j)) (fun k j => x9 (ix2 k j))
          (fun l => x10 (ix2 0 l)) (fun k j => x11 (ix2 k j)) (fun k j => x12 (ix2 k j)) (fun l => x13 (ix2 0 l)) l := by
  unfold out0_14
  rw [View.canon_unit_zero off_zero]
  unfold k0_pay9 k0_pay10 k0_pay11
  rw [View.ld_unit_zero off_zero, View.ld_unit_zero off_zero, View.ld_unit_zero off_zero, View.ld_unit_zero off_zero, View.ld_unit_zero off_zero,
    View.ld_unit_zero off_zero, View.ld_unit_zero off_zero, View.ld_unit_zero off_zero, View.ld_unit_zero off_zero, View.ld_unit_zero off_zero,
    View.ld_unit_zero off_zero, View.ld_unit_zero off_zero, View.ld_unit_zero off_zero]
  -- the residual stream after the mixers
  generalize hx1 : k0_pay2 (F := Ideal) x0 x1 (View.ld x4 r0_2) x2 (View.ld x4 r0_3) x5 = y1
  have e1 : (fun l => y1 (ix2 r l)) = resid1 (fun l => x0 (ix2 r l)) (fun k => x1 (ix2 r k)) (fun k => x2 (ix2 r k)) (fun k j => x4 (ix2 k j)) (fun l => x5 (ix2 0 l)) := by
    subst hx1
    funext l
    rw [pay2_apply]
    unfold resid1
    have e : (fun l => ∑ k, x1 (ix2 r k) * View.ld x4 r0_2 (ix2 k l) + ∑ k, x2 (ix2 r k) * View.ld x4 r0_3 (ix2 k l))
        = mix (fun k => x1 (ix2 r k)) (fun k => x2 (ix2 r k)) (fun k j => x4 (ix2 k j)) :=
      funext fun l => congrArg₂ (· + ·) (Finset.sum_congr rfl fun k _ => congrArg _ (ld_top x4 k l))
        (Finset.sum_congr rfl fun k _ => congrArg _ (ld_bot x4 k l))
    rw [e]
  -- its norm
  generalize hn : k0_pay4 (F := Ideal) x0 x1 (View.ld x4 r0_2) x2 (View.ld x4 r0_3) x5 = n1
  have en : (fun l => n1 (ix2 r l) * k0_pay3 (F := Ideal) x6 (ix2 0 l)) = rms (fun l => y1 (ix2 r l)) (fun l => x6 (ix2 0 l)) := by
    subst hn
    funext l
    rw [pay4_apply _ _ _ _ _ _ _ hx1, pay3_apply]
    rfl
  -- the residual stream after the feed-forward block
  have e2 : ∀ l, k0_pay5 (F := Ideal) y1 (k0_pay3 (F := Ideal) x6) n1 x7 x8 x9 x10 (ix2 r l)
      = resid2 (fun l => y1 (ix2 r l)) (fun l => x6 (ix2 0 l)) (fun k j => x7 (ix2 k j)) (fun k j => x8 (ix2 k j)) (fun k j => x9 (ix2 k j)) (fun l => x10 (ix2 0 l)) l := by
    intro l
    rw [pay5_apply, en]
    rfl
  rw [pay1_apply, e2]
  have e7 : (fun l => k0_pay7 (F := Ideal) y1 (k0_pay3 (F := Ideal) x6) n1 x7 x8 x9 x10 (ix2 r l))
      = resid2 (fun l => y1 (ix2 r l)) (fun l => x6 (ix2 0 l)) (fun k j => x7 (ix2 k j)) (fun k j => x8 (ix2 k j)) (fun k j => x9 (ix2 k j)) (fun l => x10 (ix2 0 l)) :=
    funext fun l => (pay7_apply _ _ _ _ _ _ _ r l).trans (e2 l)
  have e8 : (fun k j => k0_pay8 (F := Ideal) x12 (ix2 k j)) = fun k j => x12 (ix2 k j) := funext fun k => funext fun j => pay8_apply x12 k j
  have e6 : ∀ l, k0_pay6 (F := Ideal) x3 x11 (ix2 r l) = mv (fun k => x3 (ix2 r k)) (fun k j => x11 (ix2 k j)) l := pay6_apply x3 x11 r
  rw [e7, e8, e1]
  simp only [e6]
  rfl

end Cert.Proof.Post

end
-- ==== Proof.PostBlk.lean ====
/-
  The kernel's whole result: grid point `t` handles tokens `512 t` to `512 t + 511`, its blocks are those tokens' rows and the
  whole weights, and row `R` of the result array is the spec of that token (`kernel_apply`).
-/
module

public import proofs.«01_k».proof.Proof.PostPay
public import Idealize.ShloMosaic.Lib.StableHlo.RunRead
public import Idealize.ShloMosaic.Lib.Tactic.CleanTypes

@[expose] public section

set_option maxRecDepth 16384

noncomputable section

open Idealize.ShloMosaic Idealize.ShloMosaic.TcCoe Idealize.SL.Sem Idealize.ShloMosaic.StableHlo

namespace Cert.Proof.Post

open Cert.Kernel2Ideal Cert.Kernel2Ideal.Gen

variable (m : (ℓ : Loc nD τ sig) → Buf (Elt Ideal) ℓ) (c : Dev nD)

/-! ## What the host hands over: the weights themselves, and the gains as one row -/

theorem V_w4 (k : Fin 1024) (l : Fin 1024) : (V m c main_v0 : Vec Ideal S1024x1024 .bf16) (ix2 k l) = (m ((c : Thread nD τ).loc main_arg4) : Vec Ideal S1024x1024 .f32) (ix2 k l) := by
  unfold V; after_reads_simp; clean_types; pointwise []

theorem V_w7 (k : Fin 1024) (l : Fin 2816) : (V m c main_v3 : Vec Ideal S1024x2816 .bf16) (ix2 k l) = (m ((c : Thread nD τ).loc main_arg7) : Vec Ideal S1024x2816 .f32) (ix2 k l) := by
  unfold V; after_reads_simp; clean_types; pointwise []

theorem V_w8 (k : Fin 1024) (l : Fin 2816) : (V m c main_v4 : Vec Ideal S1024x2816 .bf16) (ix2 k l) = (m ((c : Thread nD τ).loc main_arg8) : Vec Ideal S1024x2816 .f32) (ix2 k l) := by
  unfold V; after_reads_simp; clean_types; pointwise []

theorem V_w9 (k : Fin 2816) (l : Fin 1024) : (V m c main_v5 : Vec Ideal S2816x1024 .bf16) (ix2 k l) = (m ((c : Thread nD τ).loc main_arg9) : Vec Ideal S2816x1024 .f32) (ix2 k l) := by
  unfold V; after_reads_simp; clean_types; pointwise []

theorem V_w11 (k : Fin 256) (l : Fin 1024) : (V m c main_v7 : Vec Ideal S256x1024 .bf16) (ix2 k l) = (m ((c : Thread nD τ).loc main_arg11) : Vec Ideal S256x1024 .f32) (ix2 k l) := by
  unfold V; after_reads_simp; clean_types; pointwise []

theorem V_w12 (k : Fin 1024) (l : Fin 1024) : (V m c main_v8 : Vec Ideal S1024x1024 .bf16) (ix2 k l) = (m ((c : Thread nD τ).loc main_arg12) : Vec Ideal S1024x1024 .f32) (ix2 k l) := by
  unfold V; after_reads_simp; clean_types; pointwise []

theorem V_g5 (l : Fin 1024) : (V m c main_v1 : Vec Ideal S1x1024 .f32) (ix2 0 l) = (m ((c : Thread nD τ).loc main_arg5) : Vec Ideal S1024 .f32) (ix1 l) := by
  unfold V; after_reads_simp; clean_types; pointwise []

theorem V_g6 (l : Fin 1024) : (V m c main_v2 : Vec Ideal S1x1024 .f32) (ix2 0 l) = (m ((c : Thread nD τ).loc main_arg6) : Vec Ideal S1024 .f32) (ix1 l) := by
  unfold V; after_reads_simp; clean_types; pointwise []

theorem V_g10 (l : Fin 1024) : (V m c main_v6 : Vec Ideal S1x1024 .f32) (ix2 0 l) = (m ((c : Thread nD τ).loc main_arg10) : Vec Ideal S1024 .f32) (ix1 l) := by
  unfold V; after_reads_simp; clean_types; pointwise []

theorem V_g13 (l : Fin 1024) : (V m c main_v9 : Vec Ideal S1x1024 .f32) (ix2 0 l) = (m ((c : Thread nD τ).loc main_arg13) : Vec Ideal S1024 .f32) (ix1 l) := by
  unfold V; after_reads_simp; clean_types; pointwise []

/-! ## The blocks -/

theorem ix_row (t : Fin cfg0.N) :
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0)
      ∧ (win0_14.index t 0 = t.val ∧ win0_14.index t 1 = 0) :=
  (by decide +kernel : ∀ t : Fin grid0.N, (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0)
      ∧ (win0_14.index t 0 = t.val ∧ win0_14.index t 1 = 0)) t

theorem ix_whole (t : Fin cfg0.N) :
    (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0) ∧ (win0_12.index t 0 = 0 ∧ win0_12.index t 1 = 0) ∧ (win0_13.index t 0 = 0 ∧ win0_13.index t 1 = 0) :=
  (by decide +kernel : ∀ t : Fin grid0.N, (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0) ∧ (win0_12.index t 0 = 0 ∧ win0_12.index t 1 = 0) ∧ (win0_13.index t 0 = 0 ∧ win0_13.index t 1 = 0)) t

/-- An index of a matrix is its row and its column. -/
theorem idx_ext {n k : ℕ} {i : (⟨2, ![n, k]⟩ : Shape).Idx} {a : Fin n} {b : Fin k} (h0 : (i 0).val = a.val) (h1 : (i 1).val = b.val) : i = ix2 a b :=
  funext fun x => Fin.ext (match x with | ⟨0, _⟩ => h0 | ⟨1, _⟩ => h1)

/-- A position within a block that starts at zero. -/
theorem at_zero {i b k : ℕ} (h : i = 0) : i * b + 1 * k = k := by subst h; omega

/-- A row within block `t` of 512 rows. -/
theorem at_row {i t r R : ℕ} (h : i = t) (hR : R = 512 * t + r) : i * 512 + 1 * r = R := by subst h; omega

variable (t : Fin cfg0.N)

theorem blk0 (R : Fin 16384) (r : Fin 512) (l : Fin 1024) (hR : R.val = 512 * t.val + r.val) :
    iblk m c 0 t (ix2 r l) = (m ((c : Thread nD τ).loc main_arg0) : Vec Ideal S16384x1024 .f32) (ix2 R l) :=
  (congrFun (V_main_arg0 m c) _).trans (congrArg _ (idx_ext (at_row (ix_row t).1.1 hR) (at_zero (ix_row t).1.2)))

theorem blk1 (R : Fin 16384) (r : Fin 512) (l : Fin 512) (hR : R.val = 512 * t.val + r.val) :
    iblk m c 1 t (ix2 r l) = (m ((c : Thread nD τ).loc main_arg1) : Vec Ideal S16384x512 .bf16) (ix2 R l) :=
  (congrFun (V_main_arg1 m c) _).trans (congrArg _ (idx_ext (at_row (ix_row t).2.1.1 hR) (at_zero (ix_row t).2.1.2)))

theorem blk2 (R : Fin 16384) (r : Fin 512) (l : Fin 512) (hR : R.val = 512 * t.val + r.val) :
    iblk m c 2 t (ix2 r l) = (m ((c : Thread nD τ).loc main_arg2) : Vec Ideal S16384x512 .bf16) (ix2 R l) :=
  (congrFun (V_main_arg2 m c) _).trans (congrArg _ (idx_ext (at_row (ix_row t).2.2.1.1 hR) (at_zero (ix_row t).2.2.1.2)))

theorem blk3 (R : Fin 16384) (r : Fin 512) (l : Fin 256) (hR : R.val = 512 * t.val + r.val) :
    iblk m c 3 t (ix2 r l) = (m ((c : Thread nD τ).loc main_arg3) : Vec Ideal S16384x256 .f32) (ix2 R l) :=
  (congrFun (V_main_arg3 m c) _).trans (congrArg _ (idx_ext (at_row (ix_row t).2.2.2.1.1 hR) (at_zero (ix_row t).2.2.2.1.2)))

theorem blk4 (k : Fin 1024) (l : Fin 1024) : iblk m c 4 t (ix2 k l) = (m ((c : Thread nD τ).loc main_arg4) : Vec Ideal S1024x1024 .f32) (ix2 k l) :=
  (congrArg (V m c main_v0) (idx_ext (at_zero (ix_whole t).1.1) (at_zero (ix_whole t).1.2))).trans (V_w4 m c k l)

theorem blk5 (l : Fin 1024) : iblk m c 5 t (ix2 0 l) = (m ((c : Thread nD τ).loc main_arg5) : Vec Ideal S1024 .f32) (ix1 l) :=
  (congrArg (V m c main_v1) (idx_ext (at_zero (ix_whole t).2.1.1) (at_zero (ix_whole t).2.1.2))).trans (V_g5 m c l)

theorem blk6 (l : Fin 1024) : iblk m c 6 t (ix2 0 l) = (m ((c : Thread nD τ).loc main_arg6) : Vec Ideal S1024 .f32) (ix1 l) :=
  (congrArg (V m c main_v2) (idx_ext (at_zero (ix_whole t).2.2.1.1) (at_zero (ix_whole t).2.2.1.2))).trans (V_g6 m c l)

theorem blk7 (k : Fin 1024) (l : Fin 2816) : iblk m c 7 t (ix2 k l) = (m ((c : Thread nD τ).loc main_arg7) : Vec Ideal S1024x2816 .f32) (ix2 k l) :=
  (congrArg (V m c main_v3) (idx_ext (at_zero (ix_whole t).2.2.2.1.1) (at_zero (ix_whole t).2.2.2.1.2))).trans (V_w7 m c k l)

theorem blk8 (k : Fin 1024) (l : Fin 2816) : iblk m c 8 t (ix2 k l) = (m ((c : Thread nD τ).loc main_arg8) : Vec Ideal S1024x2816 .f32) (ix2 k l) :=
  (congrArg (V m c main_v4) (idx_ext (at_zero (ix_whole t).2.2.2.2.1.1) (at_zero (ix_whole t).2.2.2.2.1.2))).trans (V_w8 m c k l)

theorem blk9 (k : Fin 2816) (l : Fin 1024) : iblk m c 9 t (ix2 k l) = (m ((c : Thread nD τ).loc main_arg9) : Vec Ideal S2816x1024 .f32) (ix2 k l) :=
  (congrArg (V m c main_v5) (idx_ext (at_zero (ix_whole t).2.2.2.2.2.1.1) (at_zero (ix_whole t).2.2.2.2.2.1.2))).trans (V_w9 m c k l)

theorem blk10 (l : Fin 1024) : iblk m c 10 t (ix2 0 l) = (m ((c : Thread nD τ).loc main_arg10) : Vec Ideal S1024 .f32) (ix1 l) :=
  (congrArg (V m c main_v6) (idx_ext (at_zero (ix_whole t).2.2.2.2.2.2.1.1) (at_zero (ix_whole t).2.2.2.2.2.2.1.2))).trans (V_g10 m c l)

theorem blk11 (k : Fin 256) (l : Fin 1024) : iblk m c 11 t (ix2 k l) = (m ((c : Thread nD τ).loc main_arg11) : Vec Ideal S256x1024 .f32) (ix2 k l) :=
  (congrArg (V m c main_v7) (idx_ext (at_zero (ix_whole t).2.2.2.2.2.2.2.1.1) (at_zero (ix_whole t).2.2.2.2.2.2.2.1.2))).trans (V_w11 m c k l)

theorem blk12 (k : Fin 1024) (l : Fin 1024) : iblk m c 12 t (ix2 k l) = (m ((c : Thread nD τ).loc main_arg12) : Vec Ideal S1024x1024 .f32) (ix2 k l) :=
  (congrArg (V m c main_v8) (idx_ext (at_zero (ix_whole t).2.2.2.2.2.2.2.2.1.1) (at_zero (ix_whole t).2.2.2.2.2.2.2.2.1.2))).trans (V_w12 m c k l)

theorem blk13 (l : Fin 1024) : iblk m c 13 t (ix2 0 l) = (m ((c : Thread nD τ).loc main_arg13) : Vec Ideal S1024 .f32) (ix1 l) :=
  (congrArg (V m c main_v9) (idx_ext (at_zero (ix_whole t).2.2.2.2.2.2.2.2.2.1) (at_zero (ix_whole t).2.2.2.2.2.2.2.2.2.2))).trans (V_g13 m c l)

theorem flush (t : Fin cfg0.N) : (cfg0.win 14).flush t = true :=
  (by decide +kernel : ∀ t : Fin grid0.N, (cfg0.win 14).flush t = true) t

/-- Row `r` of block `t` of the result array is what point `t` writes back there. -/
theorem arr_blk (R : Fin 16384) (r : Fin 512) (l : Fin 1024) (hR : R.val = 512 * t.val + r.val) :
    (dats m 0 c).arrAt 14 cfg0.N (ix2 R l) = (dats m 0 c).flushed 14 t (ix2 r l) := by
  rw [← Value.blocks14 m c t (flush t)]
  show (dats m 0 c).arrAt 14 cfg0.N (ix2 R l) = (dats m 0 c).arrAt 14 cfg0.N (((cfg0.win 14).blk t).view.emb (ix2 r l))
  refine congrArg _ (funext fun a => Fin.ext ?_)
  match a with
  | ⟨0, _⟩ => show R.val = win0_14.index t 0 * 512 + 1 * r.val; rw [(ix_row t).2.2.2.2.1]; omega
  | ⟨1, _⟩ => show l.val = win0_14.index t 1 * 1024 + 1 * l.val; rw [(ix_row t).2.2.2.2.2]; omega

/-- Row `R` of the kernel's result. -/
theorem kernel_apply (R : Fin 16384) (l : Fin 1024) :
    (dats m 0 c).arrAt 14 cfg0.N (ix2 R l)
      = postRow (fun k => (m ((c : Thread nD τ).loc main_arg0) : Vec Ideal S16384x1024 .f32) (ix2 R k))
          (fun k => (m ((c : Thread nD τ).loc main_arg1) : Vec Ideal S16384x512 .bf16) (ix2 R k))
          (fun k => (m ((c : Thread nD τ).loc main_arg2) : Vec Ideal S16384x512 .bf16) (ix2 R k))
          (fun k => (m ((c : Thread nD τ).loc main_arg3) : Vec Ideal S16384x256 .f32) (ix2 R k))
          (fun k j => (m ((c : Thread nD τ).loc main_arg4) : Vec Ideal S1024x1024 .f32) (ix2 k j))
          (fun l => (m ((c : Thread nD τ).loc main_arg5) : Vec Ideal S1024 .f32) (ix1 l))
          (fun l => (m ((c : Thread nD τ).loc main_arg6) : Vec Ideal S1024 .f32) (ix1 l))
          (fun k j => (m ((c : Thread nD τ).loc main_arg7) : Vec Ideal S1024x2816 .f32) (ix2 k j))
          (fun k j => (m ((c : Thread nD τ).loc main_arg8) : Vec Ideal S1024x2816 .f32) (ix2 k j))
          (fun k j => (m ((c : Thread nD τ).loc main_arg9) : Vec Ideal S2816x1024 .f32) (ix2 k j))
          (fun l => (m ((c : Thread nD τ).loc main_arg10) : Vec Ideal S1024 .f32) (ix1 l))
          (fun k j => (m ((c : Thread nD τ).loc main_arg11) : Vec Ideal S256x1024 .f32) (ix2 k j))
          (fun k j => (m ((c : Thread nD τ).loc main_arg12) : Vec Ideal S1024x1024 .f32) (ix2 k j))
          (fun l => (m ((c : Thread nD τ).loc main_arg13) : Vec Ideal S1024 .f32) (ix1 l)) l := by
  let t : Fin cfg0.N := ⟨R.val / 512, by rw [show cfg0.N = 32 from N_0]; have := R.isLt; omega⟩
  let r : Fin 512 := ⟨R.val % 512, by omega⟩
  have hR : R.val = 512 * t.val + r.val := by show R.val = 512 * (R.val / 512) + R.val % 512; omega
  rw [arr_blk m c t R r l hR, Value.flushed14 m c t]
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r l) = _
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r l).trans ?_
  have e0 : (fun k => iblk m c 0 t (ix2 r k)) = fun k => (m ((c : Thread nD τ).loc main_arg0) : Vec Ideal S16384x1024 .f32) (ix2 R k) := funext fun k => blk0 m c t R r k hR
  have e1 : (fun k => iblk m c 1 t (ix2 r k)) = fun k => (m ((c : Thread nD τ).loc main_arg1) : Vec Ideal S16384x512 .bf16) (ix2 R k) := funext fun k => blk1 m c t R r k hR
  have e2 : (fun k => iblk m c 2 t (ix2 r k)) = fun k => (m ((c : Thread nD τ).loc main_arg2) : Vec Ideal S16384x512 .bf16) (ix2 R k) := funext fun k => blk2 m c t R r k hR
  have e3 : (fun k => iblk m c 3 t (ix2 r k)) = fun k => (m ((c : Thread nD τ).loc main_arg3) : Vec Ideal S16384x256 .f32) (ix2 R k) := funext fun k => blk3 m c t R r k hR
  have e4 : (fun k j => iblk m c 4 t (ix2 k j)) = fun k j => (m ((c : Thread nD τ).loc main_arg4) : Vec Ideal S1024x1024 .f32) (ix2 k j) := funext fun k => funext fun j => blk4 m c t k j
  have e5 : (fun l => iblk m c 5 t (ix2 0 l)) = fun l => (m ((c : Thread nD τ).loc main_arg5) : Vec Ideal S1024 .f32) (ix1 l) := funext fun l => blk5 m c t l
  have e6 : (fun l => iblk m c 6 t (ix2 0 l)) = fun l => (m ((c : Thread nD τ).loc main_arg6) : Vec Ideal S1024 .f32) (ix1 l) := funext fun l => blk6 m c t l
  have e7 : (fun k j => iblk m c 7 t (ix2 k j)) = fun k j => (m ((c : Thread nD τ).loc main_arg7) : Vec Ideal S1024x2816 .f32) (ix2 k j) := funext fun k => funext fun j => blk7 m c t k j
  have e8 : (fun k j => iblk m c 8 t (ix2 k j)) = fun k j => (m ((c : Thread nD τ).loc main_arg8) : Vec Ideal S1024x2816 .f32) (ix2 k j) := funext fun k => funext fun j => blk8 m c t k j
  have e9 : (fun k j => iblk m c 9 t (ix2 k j)) = fun k j => (m ((c : Thread nD τ).loc main_arg9) : Vec Ideal S2816x1024 .f32) (ix2 k j) := funext fun k => funext fun j => blk9 m c t k j
  have e10 : (fun l => iblk m c 10 t (ix2 0 l)) = fun l => (m ((c : Thread nD τ).loc main_arg10) : Vec Ideal S1024 .f32) (ix1 l) := funext fun l => blk10 m c t l
  have e11 : (fun k j => iblk m c 11 t (ix2 k j)) = fun k j => (m ((c : Thread nD τ).loc main_arg11) : Vec Ideal S256x1024 .f32) (ix2 k j) := funext fun k => funext fun j => blk11 m c t k j
  have e12 : (fun k j => iblk m c 12 t (ix2 k j)) = fun k j => (m ((c : Thread nD τ).loc main_arg12) : Vec Ideal S1024x1024 .f32) (ix2 k j) := funext fun k => funext fun j => blk12 m c t k j
  have e13 : (fun l => iblk m c 13 t (ix2 0 l)) = fun l => (m ((c : Thread nD τ).loc main_arg13) : Vec Ideal S1024 .f32) (ix1 l) := funext fun l => blk13 m c t l
  rw [e0, e1, e2, e3, e4, e5, e6, e7, e8, e9, e10, e11, e12, e13]

end Cert.Proof.Post

end
-- ==== Proof.PostRef.lean ====
/-
  The reference of the rest of the layer: what its stages hold at a token's row and a lane, as the spec of that row.
-/
module

public import proofs.«01_k».proof.Proof.Gen.Reference2Ideal.Read
public import proofs.«01_k».proof.Proof.PostSpec

@[expose] public section

set_option maxRecDepth 16384

noncomputable section

open Idealize.ShloMosaic

namespace Cert.Proof.PostRef

open Cert.Proof.Post Cert.Reference2Ideal Cert.Reference2Ideal.Gen Cert.Reference2Ideal.Read

variable (x0 : Vec Ideal S16384x1024 .f32) (x1 x2 : Vec Ideal S16384x512 .bf16) (x3 : Vec Ideal S16384x256 .f32)
  (x4 : Vec Ideal S1024x1024 .f32) (x5 x6 : Vec Ideal S1024 .f32) (x7 x8 : Vec Ideal S1024x2816 .f32) (x9 : Vec Ideal S2816x1024 .f32)
  (x10 : Vec Ideal S1024 .f32) (x11 : Vec Ideal S256x1024 .f32) (x12 : Vec Ideal S1024x1024 .f32) (x13 : Vec Ideal S1024 .f32)

/-- The heads side by side: the first 512 lanes are the retention's, the last the attention's. -/
theorem v2_lo (R : Fin 16384) (k : Fin 512) : val_main_v2 (F := Ideal) x1 x2 (ix2 R (lo k)) = x1 (ix2 R k) := by
  pointwise [val_main_v2, val_main_v0, val_main_v1]
  exact dif_pos (show (lo k).val < 512 from k.isLt)

theorem v2_hi (R : Fin 16384) (k : Fin 512) : val_main_v2 (F := Ideal) x1 x2 (ix2 R (hi k)) = x2 (ix2 R k) := by
  pointwise [val_main_v2, val_main_v0, val_main_v1]
  refine (dif_neg (show ¬ (hi k).val < 512 by show ¬ 512 + k.val < 512; omega)).trans ?_
  exact congrArg x2 (congrArg (ix2 R) (Fin.ext (show 512 + k.val - 512 = k.val by omega)))

theorem v3_apply (R : Fin 16384) (l : Fin 1024) :
    val_main_v3 (F := Ideal) x1 x2 x4 (ix2 R l) = mix (fun k => x1 (ix2 R k)) (fun k => x2 (ix2 R k)) (fun k j => x4 (ix2 k j)) l := by
  unfold val_main_v3
  generalize h : val_main_v2 (F := Ideal) x1 x2 = y
  pointwise []
  subst h
  rw [sum_halves]
  exact congrArg₂ (· + ·) (Finset.sum_congr rfl fun k _ => congrArg (· * _) (v2_lo x1 x2 R k))
    (Finset.sum_congr rfl fun k _ => congrArg (· * _) (v2_hi x1 x2 R k))

theorem v17_apply (R : Fin 16384) (l : Fin 1024) :
    val_main_v17 (F := Ideal) x0 x1 x2 x4 x5 (ix2 R l)
      = resid1 (fun l => x0 (ix2 R l)) (fun k => x1 (ix2 R k)) (fun k => x2 (ix2 R k)) (fun k j => x4 (ix2 k j)) (fun l => x5 (ix1 l)) l := by
  have e : (fun l => val_main_v3 (F := Ideal) x1 x2 x4 (ix2 R l)) = _ := funext (v3_apply x1 x2 x4 R)
  unfold resid1
  rw [← e]
  unfold val_main_v17 val_main_v16 val_main_v13 val_main_v12 val_main_v11 val_main_v10 val_main_v8 val_main_v6 val_main_v5 val_main_v4
  generalize val_main_v3 (F := Ideal) x1 x2 x4 = y
  pointwise [val_main_v15, val_main_v14, val_main_v9, val_main_v7, val_main_cst, val_main_cst_0, val_main_cst_1]
  rfl

theorem v30_apply (R : Fin 16384) (l : Fin 1024) :
    val_main_v30 (F := Ideal) x0 x1 x2 x4 x5 x6 (ix2 R l)
      = rms (resid1 (fun l => x0 (ix2 R l)) (fun k => x1 (ix2 R k)) (fun k => x2 (ix2 R k)) (fun k j => x4 (ix2 k j)) (fun l => x5 (ix1 l)))
          (fun l => x6 (ix1 l)) l := by
  have e : (fun l => val_main_v17 (F := Ideal) x0 x1 x2 x4 x5 (ix2 R l)) = _ := funext (v17_apply x0 x1 x2 x4 x5 R)
  rw [← e]
  unfold val_main_v30 val_main_v27 val_main_v26 val_main_v25 val_main_v24 val_main_v22 val_main_v20 val_main_v19 val_main_v18
  generalize val_main_v17 (F := Ideal) x0 x1 x2 x4 x5 = y
  pointwise [val_main_v29, val_main_v28, val_main_v23, val_main_v21, val_main_cst_2, val_main_cst_3, val_main_cst_4]
  rfl

/-- The hidden row, of any normed row. -/
theorem v34_apply (R : Fin 16384) (l : Fin 2816) :
    val_main_v34 (F := Ideal) x0 x1 x2 x4 x5 x6 x7 x8 (ix2 R l)
      = hidden (fun l => val_main_v30 (F := Ideal) x0 x1 x2 x4 x5 x6 (ix2 R l)) (fun k j => x7 (ix2 k j)) (fun k j => x8 (ix2 k j)) l := by
  unfold val_main_v34 val_main_v33 val_main_v32 val_main_call0_v5 val_main_call0_v3 val_main_call0_v1 val_main_call0_v0 val_main_v31
  generalize val_main_v30 (F := Ideal) x0 x1 x2 x4 x5 x6 = y
  pointwise [val_main_call0_v4, val_main_call0_v2, val_main_call0_cst, val_main_call0_cst_0]
  rfl

theorem v35_apply (R : Fin 16384) (l : Fin 1024) :
    val_main_v35 (F := Ideal) x0 x1 x2 x4 x5 x6 x7 x8 x9 (ix2 R l)
      = mv (fun l => val_main_v34 (F := Ideal) x0 x1 x2 x4 x5 x6 x7 x8 (ix2 R l)) (fun k j => x9 (ix2 k j)) l := by
  unfold val_main_v35
  generalize val_main_v34 (F := Ideal) x0 x1 x2 x4 x5 x6 x7 x8 = y
  pointwise []
  rfl

/-- The residual stream after the feed-forward block, of the stream before it. -/
theorem v49_apply (R : Fin 16384) (l : Fin 1024) :
    val_main_v49 (F := Ideal) x0 x1 x2 x4 x5 x6 x7 x8 x9 x10 (ix2 R l)
      = resid2 (resid1 (fun l => x0 (ix2 R l)) (fun k => x1 (ix2 R k)) (fun k => x2 (ix2 R k)) (fun k j => x4 (ix2 k j)) (fun l => x5 (ix1 l)))
          (fun l => x6 (ix1 l)) (fun k j => x7 (ix2 k j)) (fun k j => x8 (ix2 k j)) (fun k j => x9 (ix2 k j)) (fun l => x10 (ix1 l)) l := by
  have e30 : (fun l => val_main_v30 (F := Ideal) x0 x1 x2 x4 x5 x6 (ix2 R l)) = _ := funext (v30_apply x0 x1 x2 x4 x5 x6 R)
  have e34 : (fun l => val_main_v34 (F := Ideal) x0 x1 x2 x4 x5 x6 x7 x8 (ix2 R l)) = _ := funext (v34_apply x0 x1 x2 x4 x5 x6 x7 x8 R)
  have e35 : (fun l => val_main_v35 (F := Ideal) x0 x1 x2 x4 x5 x6 x7 x8 x9 (ix2 R l)) = _ := funext (v35_apply x0 x1 x2 x4 x5 x6 x7 x8 x9 R)
  unfold resid2
  rw [← v17_apply, ← e30, ← e34, ← e35]
  unfold val_main_v49 val_main_v48 val_main_v45 val_main_v44 val_main_v43 val_main_v42 val_main_v40 val_main_v38 val_main_v37 val_main_v36
  generalize val_main_v35 (F := Ideal) x0 x1 x2 x4 x5 x6 x7 x8 x9 = y
  generalize val_main_v17 (F := Ideal) x0 x1 x2 x4 x5 = x
  pointwise [val_main_v47, val_main_v46, val_main_v41, val_main_v39, val_main_cst_5, val_main_cst_6, val_main_cst_7]
  rfl

theorem v50_apply (R : Fin 16384) (l : Fin 1024) :
    val_main_v50 (F := Ideal) x3 x11 (ix2 R l) = mv (fun k => x3 (ix2 R k)) (fun k j => x11 (ix2 k j)) l := by
  pointwise [val_main_v50]
  rfl

/-- The gated embedding, of the residual stream. -/
theorem v58_apply (R : Fin 16384) (l : Fin 1024) :
    val_main_v58 (F := Ideal) x0 x1 x2 x3 x4 x5 x6 x7 x8 x9 x10 x11 x12 (ix2 R l)
      = gated (fun l => val_main_v49 (F := Ideal) x0 x1 x2 x4 x5 x6 x7 x8 x9 x10 (ix2 R l)) (fun k => x3 (ix2 R k)) (fun k j => x11 (ix2 k j)) (fun k j => x12 (ix2 k j)) l := by
  unfold gated
  rw [← v50_apply]
  unfold val_main_v58 val_main_v57 val_main_v55 val_main_v53 val_main_v52 val_main_v51
  generalize val_main_v49 (F := Ideal) x0 x1 x2 x4 x5 x6 x7 x8 x9 x10 = x
  generalize val_main_v50 (F := Ideal) x3 x11 = e
  pointwise [val_main_v56, val_main_v54, val_main_cst_8, val_main_cst_9]
  rfl

/-- The reference's result. -/
theorem result_apply (R : Fin 16384) (l : Fin 1024) :
    val_main_v72 (F := Ideal) x0 x1 x2 x3 x4 x5 x6 x7 x8 x9 x10 x11 x12 x13 (ix2 R l)
      = postRow (fun l => x0 (ix2 R l)) (fun k => x1 (ix2 R k)) (fun k => x2 (ix2 R k)) (fun k => x3 (ix2 R k)) (fun k j => x4 (ix2 k j))
          (fun l => x5 (ix1 l)) (fun l => x6 (ix1 l)) (fun k j => x7 (ix2 k j)) (fun k j => x8 (ix2 k j)) (fun k j => x9 (ix2 k j))
          (fun l => x10 (ix1 l)) (fun k j => x11 (ix2 k j)) (fun k j => x12 (ix2 k j)) (fun l => x13 (ix1 l)) l := by
  have e49 : (fun l => val_main_v49 (F := Ideal) x0 x1 x2 x4 x5 x6 x7 x8 x9 x10 (ix2 R l)) = _ := funext (v49_apply x0 x1 x2 x4 x5 x6 x7 x8 x9 x10 R)
  have e58 : (fun l => val_main_v58 (F := Ideal) x0 x1 x2 x3 x4 x5 x6 x7 x8 x9 x10 x11 x12 (ix2 R l)) = _ :=
    funext (v58_apply x0 x1 x2 x3 x4 x5 x6 x7 x8 x9 x10 x11 x12 R)
  unfold postRow resid3
  rw [← e49, ← e58]
  unfold val_main_v72 val_main_v71 val_main_v68 val_main_v67 val_main_v66 val_main_v65 val_main_v63 val_main_v61 val_main_v60 val_main_v59
  generalize val_main_v58 (F := Ideal) x0 x1 x2 x3 x4 x5 x6 x7 x8 x9 x10 x11 x12 = y
  generalize val_main_v49 (F := Ideal) x0 x1 x2 x4 x5 x6 x7 x8 x9 x10 = x
  pointwise [val_main_v70, val_main_v69, val_main_v64, val_main_v62, val_main_cst_10, val_main_cst_11, val_main_cst_12]
  rfl

end Cert.Proof.PostRef

end
-- ==== Proof.PostEq.lean ====
/-
  The equality claim of the rest of the layer: from launches that agree on the arguments, the kernel's result and the
  reference's are the same array, entry by entry the spec `postRow`.
-/
module

public import proofs.«01_k».proof.Defs
public import proofs.«01_k».proof.Proof.PostBlk
public import proofs.«01_k».proof.Proof.PostRef

@[expose] public section

set_option maxRecDepth 16384

noncomputable section

open Idealize.ShloMosaic Idealize.ShloMosaic.TcCoe Idealize.SL.Sem

namespace Cert.Proof.PostEq

/-- The kernel's result is what the reference computes of the kernel's arguments. -/
theorem results (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v72 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))
      = (Cert.Kernel2Ideal.Gen.dats m 0 c).arrAt 14 Cert.Kernel2Ideal.cfg0.N := by
  funext i
  have e : i = ix2 (i 0) (i 1) := (ix2_eta i).symm
  rw [e]
  exact (PostRef.result_apply _ _ _ _ _ _ _ _ _ _ _ _ _ _ (i 0) (i 1)).trans (Post.kernel_apply m c (i 0) (i 1)).symm

theorem algebraic : Cert.algebraic_Kernel2Ideal_Reference2Ideal := by
  intro m ρ m' ρ' _ hag
  refine ⟨fun c => (Cert.Kernel2Ideal.Gen.dats m 0 c).arrAt 14 Cert.Kernel2Ideal.cfg0.N, Cert.Kernel2Ideal.Value.run_blocks m ρ, ?_⟩
  refine (θ_run _ _ _).mono (fun _ h c => ⟨(h c).1.trans ?_, (h c).2⟩) (Cert.Reference2Ideal.Value.run m' ρ')
  obtain ⟨h0, h1, h2, h3, h4, h5, h6, h7, h8, h9, h10, h11, h12, h13⟩ := hag c
  refine (Cert.Reference2Ideal.Read.val_main_v72_eq _).trans (Eq.trans ?_ (results m c))
  show Cert.Reference2Ideal.Read.val_main_v72 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) = _
  rw [h0, h1, h2, h3, h4, h5, h6, h7, h8, h9, h10, h11, h12, h13]

end Cert.Proof.PostEq

end
-- ==== Proof.ProjRun.lean ====
/-
  The program of the input projection, run: its two grids one after the other (the rotation tables, then the projection), each
  buffer at the end as the last of them leaves it.
-/
module

public import proofs.«01_k».proof.Proof.Gen.Kernel3Ideal.Frame

@[expose] public section

set_option maxRecDepth 16384

noncomputable section

namespace Cert.Proof.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The algebra of resources the run is stated in. -/
abbrev Res (F : FTy → Type) [FloatOps F] := MT nD τ sig Unit (Elt F) ℕ (UR sig nD τ) ℕ

set_option backward.isDefEq.respectTransparency.types false in
/-- At the end every buffer holds what the second grid leaves. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

set_option maxHeartbeats 2000000 in
/-- The ten result arrays are what the second grid's windows leave; the arguments are as launched. -/
theorem run : θ_run defs (onTc (τ := τ) (main (F := F))) ⟨m, fun _ => 0, ρ⟩ (fun r => ∀ c : Dev nD,
      r.2.mem ((c.tc : Thread nD τ).loc main_v47_0) = (dat1 (V3 m ρ) c).arrAt 11 cfg1.N
      ∧ r.2.mem ((c.tc : Thread nD τ).loc main_v47_1) = (dat1 (V3 m ρ) c).arrAt 12 cfg1.N
      ∧ r.2.mem ((c.tc : Thread nD τ).loc main_v47_2) = (dat1 (V3 m ρ) c).arrAt 13 cfg1.N
      ∧ r.2.mem ((c.tc : Thread nD τ).loc main_v47_3) = (dat1 (V3 m ρ) c).arrAt 14 cfg1.N
      ∧ r.2.mem ((c.tc : Thread nD τ).loc main_v47_4) = (dat1 (V3 m ρ) c).arrAt 15 cfg1.N
      ∧ r.2.mem ((c.tc : Thread nD τ).loc main_v47_5) = (dat1 (V3 m ρ) c).arrAt 16 cfg1.N
      ∧ r.2.mem ((c.tc : Thread nD τ).loc main_v47_6) = (dat1 (V3 m ρ) c).arrAt 17 cfg1.N
      ∧ r.2.mem ((c.tc : Thread nD τ).loc main_v47_7) = (dat1 (V3 m ρ) c).arrAt 18 cfg1.N
      ∧ r.2.mem ((c.tc : Thread nD τ).loc main_v47_8) = (dat1 (V3 m ρ) c).arrAt 19 cfg1.N
      ∧ r.2.mem ((c.tc : Thread nD τ).loc main_v47_9) = (dat1 (V3 m ρ) c).arrAt 20 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v47_0 (by decide))).trans (W4_arr m ρ c 11),
     (h c _ (mem_uc main_v47_1 (by decide))).trans (W4_arr m ρ c 12),
     (h c _ (mem_uc main_v47_2 (by decide))).trans (W4_arr m ρ c 13),
     (h c _ (mem_uc main_v47_3 (by decide))).trans (W4_arr m ρ c 14),
     (h c _ (mem_uc main_v47_4 (by decide))).trans (W4_arr m ρ c 15),
     (h c _ (mem_uc main_v47_5 (by decide))).trans (W4_arr m ρ c 16),
     (h c _ (mem_uc main_v47_6 (by decide))).trans (W4_arr m ρ c 17),
     (h c _ (mem_uc main_v47_7 (by decide))).trans (W4_arr m ρ c 18),
     (h c _ (mem_uc main_v47_8 (by decide))).trans (W4_arr m ρ c 19),
     (h c _ (mem_uc main_v47_9 (by decide))).trans (W4_arr m ρ c 20),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_all m ρ)

end Cert.Proof.Proj

end
-- ==== Proof.ProjSpec.lean ====
/-
  The input projection, one token at a time: the spec to which both the kernel's results and the reference's are reduced.
  Every function here takes the token's row, or a slice of its projected row, and gives one lane of what is computed of it.
-/
module

public import proofs.«01_k».proof.Proof.PostSpec
public import Idealize.ShloMosaic.Lib.Pointwise

@[expose] public section

noncomputable section

open Idealize.ShloMosaic

namespace Cert.Proof.Proj

open Cert.Proof.Post (mv rms)

/-- The projected row: the token's row, normed, times the weights. -/
def prow (x g : Fin 1024 → EReal) (w : Fin 1024 → Fin 3272 → EReal) : Fin 3272 → EReal := mv (rms x g) w

/-- A lane times its logistic. -/
def swish {n : ℕ} (v : Fin n → EReal) (l : Fin n) : EReal := v l * Ideal.logistic (v l)

/-- A row of 128 lanes divided by its root mean square, times a gain. -/
def latent (v g : Fin 128 → EReal) (l : Fin 128) : EReal :=
  v l * Ideal.rsqrt (Ideal.div (∑ j, v j * v j) (Ideal.ofBits .f32 0x43000000#32) + Ideal.ofBits .f32 0x358637BD#32) * g l

/-- The mean of 64 lanes. -/
def mean64 (v : Fin 64 → EReal) : EReal := Ideal.div (∑ j, v j) (Ideal.ofBits .f32 0x42800000#32)

/-- A row of 64 lanes, less its mean, divided by its deviation, times a gain and moved by a shift. -/
def lnorm (v g b : Fin 64 → EReal) (l : Fin 64) : EReal :=
  (v l - mean64 v) * Ideal.rsqrt (mean64 (fun j => (v j - mean64 v) * (v j - mean64 v)) + Ideal.ofBits .f32 0x358637BD#32) * g l + b l

/-- The frequency of lane `i` of a rotated half. -/
def freq (i : Fin 32) : EReal :=
  Ideal.div 1 (Ideal.pow (Ideal.ofBits FTy.f32 0x461C4000#32)
    (Ideal.div (Ideal.ofBits FTy.f32 0x40000000#32 * FloatOps.sitofp (F := Ideal) FTy.f32 (BitVec.ofNat 32 i.val)) (Ideal.ofBits FTy.f32 0x42800000#32)))

/-- A lane of eight heads of 64, each rotated: its first half against its second. -/
def rot (p : Fin 512 → EReal) (cs sn : Fin 32 → EReal) (l : Fin 512) : EReal :=
  if h : l.val % 64 < 32 then p l * cs ⟨l.val % 32, by omega⟩ - p ⟨l.val + 32, by omega⟩ * sn ⟨l.val % 32, by omega⟩
  else p ⟨l.val - 32, by omega⟩ * sn ⟨l.val % 32, by omega⟩ + p l * cs ⟨l.val % 32, by omega⟩

/-- Two indices of a matrix with the same coordinates. -/
theorem ix2_congr {n k : ℕ} {a a' : Fin n} {b b' : Fin k} (h0 : a.val = a'.val) (h1 : b.val = b'.val) : ix2 a b = ix2 a' b' := by
  rw [Fin.ext h0, Fin.ext h1]

/-- Two indices of a stack of matrices with the same coordinates. -/
theorem ix3_congr {n k q : ℕ} {a a' : Fin n} {b b' : Fin k} {d d' : Fin q} (h0 : a.val = a'.val) (h1 : b.val = b'.val) (h2 : d.val = d'.val) :
    ix3 a b d = ix3 a' b' d' := by
  rw [Fin.ext h0, Fin.ext h1, Fin.ext h2]

end Cert.Proof.Proj

end
-- ==== Proof.ProjPay.lean ====
/-
  One block of the input projection: what each of its ten results holds at an index, from the blocks it is computed of.
-/
module

public import proofs.«01_k».proof.Proof.Gen.Kernel3Ideal.Frame
public import proofs.«01_k».proof.Proof.ProjSpec
public import Idealize.ShloMosaic.Lib.Pipeline.ValueKit

@[expose] public section

set_option maxRecDepth 16384

noncomputable section

open Idealize.ShloMosaic

namespace Cert.Proof.Proj

open Cert.Kernel3Ideal Cert.Kernel3Ideal.Gen Cert.Proof.Post

theorem off_zero : (![0, 0] : Fin 2 → Nat) = fun _ => 0 := by decide

variable (x0 : Vec Ideal S512x1024 .f32) (x1 : Vec Ideal S1x1024 .f32) (x2 : Vec Ideal S1024x2304 .bf16) (x3 : Vec Ideal S1024x1024 .bf16)
  (x4 : Vec Ideal S16x1024 .bf16) (x5 x6 : Vec Ideal S512x128 .f32) (x7 : Vec Ideal S1x128 .f32) (x8 x9 : Vec Ideal S1x64 .f32)
  (x10 : Vec Ideal S8x128x64 .bf16)

/-- The projected row. -/
theorem pay3_apply (r : Fin 512) (l : Fin 2304) :
    k1_pay3 (F := Ideal) x0 x1 x2 (ix2 r l) = mv (rms (fun k => x0 (ix2 r k)) (fun k => x1 (ix2 0 k))) (fun k j => x2 (ix2 k j)) l := by
  pointwise [k1_pay3, k1_pay2]
  rfl

/-- The same, of weights stored by columns. -/
theorem pay4_apply (q : Fin 1024) (r : Fin 512) :
    k1_pay4 (F := Ideal) x0 x1 x3 (ix2 q r) = mv (rms (fun k => x0 (ix2 r k)) (fun k => x1 (ix2 0 k))) (fun k j => x3 (ix2 j k)) q := by
  pointwise [k1_pay4, k1_pay2]
  exact Finset.sum_congr rfl fun k _ => mul_comm _ _

theorem pay5_apply (q : Fin 16) (r : Fin 512) :
    k1_pay5 (F := Ideal) x0 x1 x4 (ix2 q r) = mv (rms (fun k => x0 (ix2 r k)) (fun k => x1 (ix2 0 k))) (fun k j => x4 (ix2 j k)) q := by
  pointwise [k1_pay5, k1_pay2]
  exact Finset.sum_congr rfl fun k _ => mul_comm _ _

/-- The values. -/
theorem pay19_apply (p : Vec Ideal S512x2304 .f32) (r l : Fin 512) :
    k1_pay19 (F := Ideal) p (ix2 r l) = p (ix2 r ⟨1024 + l.val, by omega⟩) := by
  pointwise [k1_pay19]

/-- The gate after its swish. -/
theorem pay20_apply (p : Vec Ideal S512x2304 .f32) (r l : Fin 512) :
    k1_pay20 (F := Ideal) p (ix2 r l) = swish (fun l : Fin 512 => p (ix2 r ⟨1536 + l.val, by omega⟩)) l := by
  pointwise [k1_pay20]
  rfl

/-- The latent row, normed. -/
theorem pay21_apply (p : Vec Ideal S512x2304 .f32) (g : Vec Ideal S1x128 .f32) (r : Fin 512) (l : Fin 128) :
    k1_pay21 (F := Ideal) p g (ix2 r l) = latent (fun l : Fin 128 => p (ix2 r ⟨2048 + l.val, by omega⟩)) (fun l => g (ix2 0 l)) l := by
  pointwise [k1_pay21]
  rfl

/-- The index keys, normed. -/
theorem pay32_apply (p : Vec Ideal S512x2304 .f32) (g b : Vec Ideal S1x64 .f32) (r : Fin 512) (l : Fin 64) :
    k1_pay32 (F := Ideal) (k1_pay30 p) (k1_pay31 p) g b (ix2 r l)
      = lnorm (fun l : Fin 64 => p (ix2 r ⟨2176 + l.val, by omega⟩)) (fun l => g (ix2 0 l)) (fun l => b (ix2 0 l)) l := by
  pointwise [k1_pay32, k1_pay30, k1_pay31, k1_pay29, k1_pay28]
  rfl

/-- The lanes whose half of a head comes first. -/
def first : IVec S512x128 1 := k1_pay10 (Scalar.select (Scalar.cmpi .eq 64#32 0#32) 1#32 64#32) k1_pay8 k1_pay9

theorem first_apply (r : Fin 512) (l : Fin 128) : first (ix2 r l) = if l.val % 64 < 32 then 1#1 else 0#1 := by
  pointwise [first, k1_pay10, k1_pay8, k1_pay9]
  revert l
  decide

/-- An index with these coordinates. -/
theorem at_ix2 {n k : ℕ} {i : (⟨2, ![n, k]⟩ : Shape).Idx} {a : Fin n} {b : Fin k} (h0 : (i 0).val = a.val) (h1 : (i 1).val = b.val) : i = ix2 a b :=
  funext fun x => Fin.ext (match x with | ⟨0, _⟩ => h0 | ⟨1, _⟩ => h1)

theorem out13_apply (r l : Fin 512) :
    out1_13 (F := Ideal) x0 x1 x2 x3 x4 x5 x6 x7 x8 x9 x10 (ix2 r l) = k1_pay3 (F := Ideal) x0 x1 x2 (ix2 r ⟨1024 + l.val, by omega⟩) := by
  rw [← pay19_apply (k1_pay3 (F := Ideal) x0 x1 x2) r l]
  unfold out1_13 k1_pay155
  rw [View.canon_unit_zero off_zero, View.ld_unit_zero off_zero, View.ld_unit_zero off_zero, View.ld_unit_zero off_zero]

theorem out14_apply (r l : Fin 512) :
    out1_14 (F := Ideal) x0 x1 x2 x3 x4 x5 x6 x7 x8 x9 x10 (ix2 r l)
      = swish (fun l : Fin 512 => k1_pay3 (F := Ideal) x0 x1 x2 (ix2 r ⟨1536 + l.val, by omega⟩)) l := by
  rw [← pay20_apply]
  unfold out1_14 k1_pay155
  rw [View.canon_unit_zero off_zero, View.ld_unit_zero off_zero, View.ld_unit_zero off_zero, View.ld_unit_zero off_zero]

theorem out15_apply (r : Fin 512) (l : Fin 128) :
    out1_15 (F := Ideal) x0 x1 x2 x3 x4 x5 x6 x7 x8 x9 x10 (ix2 r l)
      = latent (fun l : Fin 128 => k1_pay3 (F := Ideal) x0 x1 x2 (ix2 r ⟨2048 + l.val, by omega⟩)) (fun l => x7 (ix2 0 l)) l := by
  rw [← pay21_apply]
  unfold out1_15 k1_pay155
  rw [View.canon_unit_zero off_zero, View.ld_unit_zero off_zero, View.ld_unit_zero off_zero, View.ld_unit_zero off_zero, View.ld_unit_zero off_zero]
  rfl

theorem out17_apply (r : Fin 512) (l : Fin 64) :
    out1_17 (F := Ideal) x0 x1 x2 x3 x4 x5 x6 x7 x8 x9 x10 (ix2 r l)
      = lnorm (fun l : Fin 64 => k1_pay3 (F := Ideal) x0 x1 x2 (ix2 r ⟨2176 + l.val, by omega⟩)) (fun l => x8 (ix2 0 l)) (fun l => x9 (ix2 0 l)) l := by
  rw [← pay32_apply]
  unfold out1_17 k1_pay155
  rw [View.canon_unit_zero off_zero, View.ld_unit_zero off_zero, View.ld_unit_zero off_zero, View.ld_unit_zero off_zero, View.ld_unit_zero off_zero, View.ld_unit_zero off_zero]

/-- The transposed latent rows, 128 tokens at a time. -/
theorem out16_apply (c : Fin 4) (l j : Fin 128) :
    out1_16 (F := Ideal) x0 x1 x2 x3 x4 x5 x6 x7 x8 x9 x10 (ix3 c l j)
      = k1_pay21 (F := Ideal) (k1_pay3 x0 x1 x2) x7 (ix2 ⟨c.val * 128 + j.val, by omega⟩ l) := by
  unfold out1_16
  canon_tiles x h
  all_goals
    replace h0 : c.val = _ := h0
    replace h1 : l.val = _ := h1
    replace h2 : j.val = _ := h2
    open_payloads
    rw [← ix3_eta x]
    pointwise []
    exact congrArg _ (ix2_congr (by first | omega | (dsimp only; omega)) h1.symm)

theorem select_congr {b b' : BitVec 1} {x x' y y' : EReal} (hb : b = b') (hx : x = x') (hy : y = y') : Scalar.select b x y = Scalar.select b' x' y' := by
  subst hb hx hy; rfl

/-- A lane of a rotated row in the kernel: the lane by the cosine, its partner in the other half of the head by the sine. -/
def turn (p : Fin 2304 → EReal) (o : ℕ) (ho : o ≤ 512) (cs sn : Fin 128 → EReal) (b : BitVec 1) (l : Fin 512) : EReal :=
  p ⟨o + l.val, by omega⟩ * cs ⟨l.val % 128, by omega⟩
    + Scalar.select b (p ⟨o + (l.val / 128 * 128 + (l.val % 128 + 32) % 128), by omega⟩) (p ⟨o + (l.val / 128 * 128 + (l.val % 128 + 96) % 128), by omega⟩)
      * sn ⟨l.val % 128, by omega⟩

theorem out11_apply (r l : Fin 512) :
    out1_11 (F := Ideal) x0 x1 x2 x3 x4 x5 x6 x7 x8 x9 x10 (ix2 r l)
      = turn (fun j => k1_pay3 (F := Ideal) x0 x1 x2 (ix2 r j)) 0 (by omega) (fun j => x5 (ix2 r j)) (fun j => x6 (ix2 r j))
          (k1_pay10 (Scalar.select (Scalar.cmpi .eq 64#32 0#32) 1#32 64#32) k1_pay8 k1_pay9 (ix2 r ⟨l.val % 128, by omega⟩)) l := by
  unfold out1_11
  canon_tiles x h
  all_goals
    replace h0 : r.val = _ := h0
    replace h1 : l.val = _ := h1
    open_payloads
    rw [← ix2_eta x]
    generalize k1_pay10 _ _ _ = mm
    pointwise [turn]
    have e : x = ix2 r ⟨l.val % 128, by omega⟩ := at_ix2 h0.symm (by dsimp only; omega)
    refine congrArg₂ (· + ·) (congrArg₂ (· * ·) (congrArg _ (ix2_congr h0.symm (by dsimp only; omega))) (congrArg x5 e))
      (congrArg₂ (· * ·) (select_congr (congrArg mm e) (congrArg _ (ix2_congr h0.symm ?_)) (congrArg _ (ix2_congr h0.symm ?_))) (congrArg x6 e))
    · dsimp only; omega
    · dsimp only; omega

theorem out12_apply (r l : Fin 512) :
    out1_12 (F := Ideal) x0 x1 x2 x3 x4 x5 x6 x7 x8 x9 x10 (ix2 r l)
      = turn (fun j => k1_pay3 (F := Ideal) x0 x1 x2 (ix2 r j)) 512 (by omega) (fun j => x5 (ix2 r j)) (fun j => x6 (ix2 r j))
          (k1_pay10 (Scalar.select (Scalar.cmpi .eq 64#32 0#32) 1#32 64#32) k1_pay8 k1_pay9 (ix2 r ⟨l.val % 128, by omega⟩)) l
        * Ideal.ofBits .f32 0x3E000000#32 := by
  unfold out1_12
  canon_tiles x h
  all_goals
    replace h0 : r.val = _ := h0
    replace h1 : l.val = _ := h1
    open_payloads
    generalize k1_pay10 _ _ _ = mm
    pointwise [turn]
    have e : x = ix2 r ⟨l.val % 128, by omega⟩ := at_ix2 h0.symm (by dsimp only; omega)
    refine congrArg (· * _) (congrArg₂ (· + ·) (congrArg₂ (· * ·) (congrArg _ (ix2_congr h0.symm (by dsimp only; omega))) (congrArg x5 e))
      (congrArg₂ (· * ·) (select_congr (congrArg mm e) (congrArg _ (ix2_congr h0.symm ?_)) (congrArg _ (ix2_congr h0.symm ?_))) (congrArg x6 e)))
    · dsimp only; omega
    · dsimp only; omega

/-- The index queries, in pairs of heads. -/
theorem out18_apply (c p : Fin 4) (d : Fin 64) (j : Fin 256) :
    out1_18 (F := Ideal) x0 x1 x2 x3 x4 x5 x6 x7 x8 x9 x10 (ix4 c p d j)
      = k1_pay4 (F := Ideal) x0 x1 x3 (ix2 ⟨512 + ((2 * p.val + j.val / 128) * 64 + d.val), by omega⟩ ⟨c.val * 128 + j.val % 128, by omega⟩) := by
  unfold out1_18
  canon_tiles x h
  all_goals
    replace h0 : c.val = _ := h0
    replace h1 : p.val = _ := h1
    replace h2 : d.val = _ := h2
    replace h3 : j.val = _ := h3
    open_payloads
    rw [← ix4_eta x]
    pointwise []
    exact congrArg _ (ix2_congr (by dsimp only; omega) (by dsimp only; omega))

/-- The index weights, in pairs of heads. -/
theorem out19_apply (c p : Fin 4) (j : Fin 256) :
    out1_19 (F := Ideal) x0 x1 x2 x3 x4 x5 x6 x7 x8 x9 x10 (ix4 c p 0 j)
      = k1_pay5 (F := Ideal) x0 x1 x4 (ix2 ⟨2 * p.val + j.val / 128, by omega⟩ ⟨c.val * 128 + j.val % 128, by omega⟩) * Ideal.ofBits .f32 0x3D3504F3#32 := by
  unfold out1_19
  canon_tiles x h
  all_goals
    replace h0 : c.val = _ := h0
    replace h1 : p.val = _ := h1
    replace h3 : j.val = _ := h3
    open_payloads
    rw [← ix4_eta x]
    pointwise []
    exact congrArg (· * _) (congrArg _ (ix2_congr (by dsimp only; omega) (by dsimp only; omega)))

/-- The lifted queries, in pairs of heads. -/
theorem out20_apply (c p : Fin 4) (e : Fin 128) (j : Fin 256) :
    out1_20 (F := Ideal) x0 x1 x2 x3 x4 x5 x6 x7 x8 x9 x10 (ix4 c p e j)
      = (∑ k : Fin 64, x10 (ix3 ⟨2 * p.val + j.val / 128, by omega⟩ e k)
          * k1_pay4 (F := Ideal) x0 x1 x3 (ix2 ⟨(2 * p.val + j.val / 128) * 64 + k.val, by omega⟩ ⟨c.val * 128 + j.val % 128, by omega⟩))
        * Ideal.ofBits .f32 0x3E000000#32 := by
  unfold out1_20
  canon_tiles x h
  all_goals
    replace h0 : c.val = _ := h0
    replace h1 : p.val = _ := h1
    replace h2 : e.val = _ := h2
    replace h3 : j.val = _ := h3
    open_payloads
    rw [← ix4_eta x]
    pointwise []
    refine congrArg (· * _) (Finset.sum_congr rfl fun k _ => congrArg₂ (· * ·) (congrArg x10 (ix3_congr ?_ h2.symm rfl)) (congrArg _ (ix2_congr ?_ ?_)))
    · dsimp only; omega
    · dsimp only; omega
    · dsimp only; omega

end Cert.Proof.Proj

end
-- ==== Proof.ProjHost.lean ====
/-
  What the host hands the two grids of the input projection: the weights, regrouped and transposed, the gains as one row, the
  rotation's frequencies and signs.
-/
module

public import proofs.«01_k».proof.Proof.ProjPay
public import Idealize.ShloMosaic.Lib.StableHlo.RunRead
public import Idealize.ShloMosaic.Lib.Tactic.CleanTypes
public import Idealize.ShloMosaic.Lib.IdealHost

@[expose] public section

set_option maxRecDepth 16384

noncomputable section

open Idealize.ShloMosaic Idealize.ShloMosaic.TcCoe Idealize.SL.Sem Idealize.ShloMosaic.StableHlo

namespace Cert.Proof.Proj

open Cert.Kernel3Ideal Cert.Kernel3Ideal.Gen

variable (m : (ℓ : Loc nD τ sig) → Buf (Elt Ideal) ℓ) (ρ : Dev nD → PrngReg) (c : Dev nD)

theorem V_pos (R : Fin 16384) : (V1 m ρ c main_v23 : Vec Ideal S16384x1 .i32) (ix2 R 0)
    = (m ((c : Thread nD τ).loc main_arg1) : Vec Ideal S8x2048 .i32) (ix2 ⟨R.val / 2048, by omega⟩ ⟨R.val % 2048, by omega⟩) := by
  unfold V1 W1; after_reads_simp; clean_types; pointwise []

theorem V_freq (l : Fin 128) : (V1 m ρ c main_v14 : Vec Ideal S1x128 .f32) (ix2 0 l) = freq ⟨l.val % 32, by omega⟩ := by
  unfold V1 W1; after_reads_simp; clean_types; pointwise [freq]

/-- Two halves side by side. -/
theorem cat_sign (a b : Vec Ideal S32 .f32) (j : Fin 64) :
    (concatenate S64 0 [⟨S32, a⟩, ⟨S32, b⟩] concatenates_S32_S32_S64_d0 : Vec Ideal S64 .f32) (ix1 j)
      = if h : j.val < 32 then a (ix1 ⟨j.val, h⟩) else b (ix1 ⟨j.val - 32, by omega⟩) := by
  pointwise []

/-- A row of 64 lanes, repeated. -/
theorem tile_sign (y : Vec Ideal S64 .f32) (l : Fin 128) :
    shapeCast { rank := 2, size := ![1, 128] }
      (fun i => shapeCast { rank := 1, size := ![128] }
        (broadcastInDim S2x64 ![0, 1] bcast_S1x64_S2x64_0_1 fun i => shapeCast { rank := 2, size := ![1, 64] } y shapeCasts_S64_S1x64 i)
        shapeCasts_S2x64_S128 i)
      shapeCasts_S128_S1x128 (ix2 0 l) = y (ix1 ⟨l.val % 64, by omega⟩) := by
  pointwise []

theorem V_sign (l : Fin 128) : (V1 m ρ c main_v22 : Vec Ideal S1x128 .f32) (ix2 0 l) = if l.val % 64 < 32 then (-1 : EReal) else (1 : EReal) := by
  unfold V1 W1; after_reads_simp; clean_types
  refine (tile_sign _ l).trans ((cat_sign _ _ _).trans ?_)
  split
  · after_reads_simp; clean_types; pointwise []
  · after_reads_simp; clean_types; pointwise []

theorem W2_arg (a : Ref sig .tc) (h : a ∈ argRefs := by decide) : W2 m ρ c (Proc.devRef .tc a) = m ((c : Thread nD τ).loc a) := W2_args m ρ c a h

theorem V_lift (h : Fin 8) (e : Fin 128) (d : Fin 64) : (V3 m ρ c main_v42 : Vec Ideal S8x128x64 .bf16) (ix3 h e d) = (m ((c : Thread nD τ).loc main_arg7) : Vec Ideal S8x64x128 .f32) (ix3 h d e) := by
  rw [← W2_arg m ρ c main_arg7]
  unfold V3 W3; after_reads_simp; clean_types; pointwise []

theorem V_g2 (l : Fin 1024) : (V3 m ρ c main_v43 : Vec Ideal S1x1024 .f32) (ix2 0 l) = (m ((c : Thread nD τ).loc main_arg2) : Vec Ideal S1024 .f32) (ix1 l) := by
  rw [← W2_arg m ρ c main_arg2]
  unfold V3 W3; after_reads_simp; clean_types; pointwise []

theorem V_g4 (l : Fin 128) : (V3 m ρ c main_v44 : Vec Ideal S1x128 .f32) (ix2 0 l) = (m ((c : Thread nD τ).loc main_arg4) : Vec Ideal S128 .f32) (ix1 l) := by
  rw [← W2_arg m ρ c main_arg4]
  unfold V3 W3; after_reads_simp; clean_types; pointwise []

theorem V_g5 (l : Fin 64) : (V3 m ρ c main_v45 : Vec Ideal S1x64 .f32) (ix2 0 l) = (m ((c : Thread nD τ).loc main_arg5) : Vec Ideal S64 .f32) (ix1 l) := by
  rw [← W2_arg m ρ c main_arg5]
  unfold V3 W3; after_reads_simp; clean_types; pointwise []

theorem V_g6 (l : Fin 64) : (V3 m ρ c main_v46 : Vec Ideal S1x64 .f32) (ix2 0 l) = (m ((c : Thread nD τ).loc main_arg6) : Vec Ideal S64 .f32) (ix1 l) := by
  rw [← W2_arg m ρ c main_arg6]
  unfold V3 W3; after_reads_simp; clean_types; pointwise []

/-- The columns of the regrouped weights: the first 2048 as they are, then the latent's, then the index keys'. -/
theorem V_wt_lo (k : Fin 1024) (l : Fin 2304) (h : l.val < 2048) :
    (V3 m ρ c main_v30 : Vec Ideal S1024x2304 .bf16) (ix2 k l) = (m ((c : Thread nD τ).loc main_arg3) : Vec Ideal S1024x3272 .f32) (ix2 k ⟨l.val, by omega⟩) := by
  rw [← W2_arg m ρ c main_arg3]
  unfold V3 W3; after_reads_simp; clean_types; pointwise []
  rw [dif_pos h]
  after_reads_simp; clean_types; pointwise []

theorem V_wt_mid (k : Fin 1024) (l : Fin 2304) (h : 2048 ≤ l.val) (h' : l.val < 2176) :
    (V3 m ρ c main_v30 : Vec Ideal S1024x2304 .bf16) (ix2 k l) = (m ((c : Thread nD τ).loc main_arg3) : Vec Ideal S1024x3272 .f32) (ix2 k ⟨l.val + 512, by omega⟩) := by
  rw [← W2_arg m ρ c main_arg3]
  unfold V3 W3; after_reads_simp; clean_types; pointwise []
  rw [dif_neg (by omega), dif_pos (show l.val - 2048 < 128 by omega)]
  after_reads_simp; clean_types; pointwise []
  exact congrArg _ (ix2_congr rfl (by dsimp only; omega))

theorem V_wt_hi (k : Fin 1024) (l : Fin 2304) (h : 2176 ≤ l.val) (h' : l.val < 2240) :
    (V3 m ρ c main_v30 : Vec Ideal S1024x2304 .bf16) (ix2 k l) = (m ((c : Thread nD τ).loc main_arg3) : Vec Ideal S1024x3272 .f32) (ix2 k ⟨l.val + 1024, by omega⟩) := by
  rw [← W2_arg m ρ c main_arg3]
  unfold V3 W3; after_reads_simp; clean_types; pointwise []
  rw [dif_neg (by omega), dif_neg (by omega), dif_pos (show l.val - 2048 - 128 < 64 by omega)]
  after_reads_simp; clean_types; pointwise []
  exact congrArg _ (ix2_congr rfl (by dsimp only; omega))

/-- The rows of the transposed weights: the attention queries', then the index queries'. -/
theorem V_wf_lo (l : Fin 1024) (k : Fin 1024) (h : l.val < 512) :
    (V3 m ρ c main_v35 : Vec Ideal S1024x1024 .bf16) (ix2 l k) = (m ((c : Thread nD τ).loc main_arg3) : Vec Ideal S1024x3272 .f32) (ix2 k ⟨l.val + 2048, by omega⟩) := by
  rw [← W2_arg m ρ c main_arg3]
  unfold V3 W3; after_reads_simp; clean_types; pointwise []
  rw [dif_pos h]
  after_reads_simp; clean_types; pointwise []
  exact congrArg _ (ix2_congr rfl (by dsimp only; omega))

theorem V_wf_hi (l : Fin 1024) (k : Fin 1024) (h : 512 ≤ l.val) :
    (V3 m ρ c main_v35 : Vec Ideal S1024x1024 .bf16) (ix2 l k) = (m ((c : Thread nD τ).loc main_arg3) : Vec Ideal S1024x3272 .f32) (ix2 k ⟨l.val + 2176, by omega⟩) := by
  rw [← W2_arg m ρ c main_arg3]
  unfold V3 W3; after_reads_simp; clean_types; pointwise []
  rw [dif_neg (by omega)]
  after_reads_simp; clean_types; pointwise []
  exact congrArg _ (ix2_congr rfl (by dsimp only; omega))

theorem V_wfw (l : Fin 16) (k : Fin 1024) (h : l.val < 8) :
    (V3 m ρ c main_v40 : Vec Ideal S16x1024 .bf16) (ix2 l k) = (m ((c : Thread nD τ).loc main_arg3) : Vec Ideal S1024x3272 .f32) (ix2 k ⟨l.val + 3264, by omega⟩) := by
  rw [← W2_arg m ρ c main_arg3]
  unfold V3 W3; after_reads_simp; clean_types; pointwise []
  rw [dif_pos h]
  after_reads_simp; clean_types; pointwise []
  exact congrArg _ (ix2_congr rfl (by dsimp only; omega))

end Cert.Proof.Proj

end
-- ==== Proof.ProjTab.lean ====
/-
  The rotation's tables: row `R` of the cosines and of the signed sines, as the first grid leaves them.
-/
module

public import proofs.«01_k».proof.Proof.ProjHost

@[expose] public section

set_option maxRecDepth 16384

noncomputable section

open Idealize.ShloMosaic Idealize.ShloMosaic.TcCoe Idealize.SL.Sem Idealize.ShloMosaic.StableHlo
open Idealize.ShloMosaic.Rounds
open Idealize.ShloMosaic.Pipeline (Dat Cfg Window)

namespace Cert.Proof.Proj

open Cert.Kernel3Ideal Cert.Kernel3Ideal.Gen

variable (m : (ℓ : Loc nD τ sig) → Buf (Elt Ideal) ℓ) (ρ : Dev nD → PrngReg) (c : Dev nD)

theorem ix0 (t : Fin cfg0.N) :
    (win0_0.index t 0 = t.val ∧ win0_0.index t 1 = 0) ∧ (win0_1.index t 0 = 0 ∧ win0_1.index t 1 = 0) ∧ (win0_2.index t 0 = 0 ∧ win0_2.index t 1 = 0)
      ∧ (win0_3.index t 0 = t.val ∧ win0_3.index t 1 = 0) ∧ (win0_4.index t 0 = t.val ∧ win0_4.index t 1 = 0)
      ∧ (cfg0.win 3).flush t = true ∧ (cfg0.win 4).flush t = true :=
  (by decide +kernel : ∀ t : Fin grid0.N,
    (win0_0.index t 0 = t.val ∧ win0_0.index t 1 = 0) ∧ (win0_1.index t 0 = 0 ∧ win0_1.index t 1 = 0) ∧ (win0_2.index t 0 = 0 ∧ win0_2.index t 1 = 0)
      ∧ (win0_3.index t 0 = t.val ∧ win0_3.index t 1 = 0) ∧ (win0_4.index t 0 = t.val ∧ win0_4.index t 1 = 0)
      ∧ (cfg0.win 3).flush t = true ∧ (cfg0.win 4).flush t = true) t

theorem out0_3_apply (x0 : Vec Ideal S1024x1 .i32) (x1 x2 : Vec Ideal S1x128 .f32) (r : Fin 1024) (l : Fin 128) :
    out0_3 (F := Ideal) x0 x1 x2 (ix2 r l) = Ideal.cos (FloatOps.sitofp (F := Ideal) .f32 (x0 (ix2 r 0)) * x1 (ix2 0 l)) := by
  unfold out0_3
  rw [View.canon_unit_zero off_zero, View.ld_unit_zero off_zero, View.ld_unit_zero off_zero]
  pointwise [k0_pay2, k0_pay1]

theorem out0_4_apply (x0 : Vec Ideal S1024x1 .i32) (x1 x2 : Vec Ideal S1x128 .f32) (r : Fin 1024) (l : Fin 128) :
    out0_4 (F := Ideal) x0 x1 x2 (ix2 r l) = Ideal.sin (FloatOps.sitofp (F := Ideal) .f32 (x0 (ix2 r 0)) * x1 (ix2 0 l)) * x2 (ix2 0 l) := by
  unfold out0_4
  rw [View.canon_unit_zero off_zero, View.ld_unit_zero off_zero, View.ld_unit_zero off_zero, View.ld_unit_zero off_zero]
  pointwise [k0_pay3, k0_pay1]

/-- The angle of a token and a lane. -/
def ang (R : Fin 16384) (i : Fin 32) : EReal :=
  FloatOps.sitofp (F := Ideal) .f32 ((m ((c : Thread nD τ).loc main_arg1) : Vec Ideal S8x2048 .i32) (ix2 ⟨R.val / 2048, by omega⟩ ⟨R.val % 2048, by omega⟩)) * freq i

/-- A row within block `t` of `b` rows. -/
theorem at_blk {b i t r R : ℕ} (h : i = t) (hR : R = b * t + r) : i * b + 1 * r = R := by subst h; rw [Nat.mul_comm]; omega
theorem at_zero {i b k : ℕ} (h : i = 0) : i * b + 1 * k = k := by subst h; omega

section
variable (t : Fin cfg0.N)

theorem tab0 (R : Fin 16384) (r : Fin 1024) (hR : R.val = 1024 * t.val + r.val) :
    iblk0 (V1 m ρ) c 0 t (ix2 r 0) = (m ((c : Thread nD τ).loc main_arg1) : Vec Ideal S8x2048 .i32) (ix2 ⟨R.val / 2048, by omega⟩ ⟨R.val % 2048, by omega⟩) :=
  (congrArg (V1 m ρ c main_v23) (at_ix2 (at_blk (ix0 t).1.1 hR) (at_zero (ix0 t).1.2))).trans (V_pos m ρ c R)

theorem tab1 (l : Fin 128) : iblk0 (V1 m ρ) c 1 t (ix2 0 l) = freq ⟨l.val % 32, by omega⟩ :=
  (congrArg (V1 m ρ c main_v14) (at_ix2 (at_zero (ix0 t).2.1.1) (at_zero (ix0 t).2.1.2))).trans (V_freq m ρ c l)

theorem tab2 (l : Fin 128) : iblk0 (V1 m ρ) c 2 t (ix2 0 l) = if l.val % 64 < 32 then (-1 : EReal) else (1 : EReal) :=
  (congrArg (V1 m ρ c main_v22) (at_ix2 (at_zero (ix0 t).2.2.1.1) (at_zero (ix0 t).2.2.1.2))).trans (V_sign m ρ c l)

theorem inj3 : ∀ t t' : Fin cfg0.N, win0_3.index t = win0_3.index t' → t = t' := fun t t' h =>
  Fin.ext ((ix0 t).2.2.2.1.1.symm.trans ((congrFun h 0).trans (ix0 t').2.2.2.1.1))

theorem inj4 : ∀ t t' : Fin cfg0.N, win0_4.index t = win0_4.index t' → t = t' := fun t t' h =>
  Fin.ext ((ix0 t).2.2.2.2.1.1.symm.trans ((congrFun h 0).trans (ix0 t').2.2.2.2.1.1))

theorem arr3 (i : S1024x128.Idx) :
    (dat0 (V1 m ρ) c).arrAt 3 cfg0.N (((cfg0.win 3).blk t).view.emb i) = out0_3 (iblk0 (V1 m ρ) c 0 t) (iblk0 (V1 m ρ) c 1 t) (iblk0 (V1 m ρ) c 2 t) i := by
  refine (congrFun ((dat0 (V1 m ρ) c).read_blk_arrAt_eq_flushed 3 (fun t t' _ _ hne => (cfg0.win 3).disjoint_blk fun h => hne (inj3 t t' h)) cfg0.N t t.isLt (ix0 t).2.2.2.2.2.1) i).trans ?_
  show (cfg0.win 3).cut (grid0.coords t) ((dat0 (V1 m ρ) c).after 3 t) i = _
  rw [after0_3]
  rfl

theorem arr4 (i : S1024x128.Idx) :
    (dat0 (V1 m ρ) c).arrAt 4 cfg0.N (((cfg0.win 4).blk t).view.emb i) = out0_4 (iblk0 (V1 m ρ) c 0 t) (iblk0 (V1 m ρ) c 1 t) (iblk0 (V1 m ρ) c 2 t) i := by
  refine (congrFun ((dat0 (V1 m ρ) c).read_blk_arrAt_eq_flushed 4 (fun t t' _ _ hne => (cfg0.win 4).disjoint_blk fun h => hne (inj4 t t' h)) cfg0.N t t.isLt (ix0 t).2.2.2.2.2.2) i).trans ?_
  show (cfg0.win 4).cut (grid0.coords t) ((dat0 (V1 m ρ) c).after 4 t) i = _
  rw [after0_4]
  rfl
end

theorem cos_apply (R : Fin 16384) (l : Fin 128) :
    (V3 m ρ c main_v24_0 : Vec Ideal S16384x128 .f32) (ix2 R l) = Ideal.cos (ang m c R ⟨l.val % 32, by omega⟩) := by
  let t : Fin cfg0.N := ⟨R.val / 1024, by rw [show cfg0.N = 16 from N_0]; have := R.isLt; omega⟩
  let r : Fin 1024 := ⟨R.val % 1024, by omega⟩
  have hR : R.val = 1024 * t.val + r.val := by show R.val = 1024 * (R.val / 1024) + R.val % 1024; omega
  have e : (V3 m ρ c main_v24_0 : Vec Ideal S16384x128 .f32) = (dat0 (V1 m ρ) c).arrAt 3 cfg0.N :=
    (W3_of m ρ c main_v24_0 (by decide)).trans (W2_arr m ρ c 3)
  have e' : ((cfg0.win 3).blk t).view.emb (ix2 r l) = ix2 R l := at_ix2 (at_blk (ix0 t).2.2.2.1.1 hR) (at_zero (ix0 t).2.2.2.1.2)
  rw [e, ← e', arr3, out0_3_apply, tab0 m ρ c t R r hR, tab1]
  rfl

theorem sin_apply (R : Fin 16384) (l : Fin 128) :
    (V3 m ρ c main_v24_1 : Vec Ideal S16384x128 .f32) (ix2 R l)
      = Ideal.sin (ang m c R ⟨l.val % 32, by omega⟩) * if l.val % 64 < 32 then (-1 : EReal) else (1 : EReal) := by
  let t : Fin cfg0.N := ⟨R.val / 1024, by rw [show cfg0.N = 16 from N_0]; have := R.isLt; omega⟩
  let r : Fin 1024 := ⟨R.val % 1024, by omega⟩
  have hR : R.val = 1024 * t.val + r.val := by show R.val = 1024 * (R.val / 1024) + R.val % 1024; omega
  have e : (V3 m ρ c main_v24_1 : Vec Ideal S16384x128 .f32) = (dat0 (V1 m ρ) c).arrAt 4 cfg0.N :=
    (W3_of m ρ c main_v24_1 (by decide)).trans (W2_arr m ρ c 4)
  have e' : ((cfg0.win 4).blk t).view.emb (ix2 r l) = ix2 R l := at_ix2 (at_blk (ix0 t).2.2.2.2.1.1 hR) (at_zero (ix0 t).2.2.2.2.1.2)
  rw [e, ← e', arr4, out0_4_apply, tab0 m ρ c t R r hR, tab1, tab2]
  rfl

end Cert.Proof.Proj

end
-- ==== Proof.ProjBlk.lean ====
/-
  The kernel's ten results of the input projection: grid point `t` handles tokens `512 t` to `512 t + 511`; what each result
  array holds of a token, as the spec of that token's row.
-/
module

public import proofs.«01_k».proof.Proof.ProjTab

@[expose] public section

set_option maxRecDepth 16384

noncomputable section

open Idealize.ShloMosaic Idealize.ShloMosaic.TcCoe Idealize.SL.Sem Idealize.ShloMosaic.StableHlo
open Idealize.ShloMosaic.Rounds
open Idealize.ShloMosaic.Pipeline (Dat Cfg Window)

namespace Cert.Proof.Proj

open Cert.Kernel3Ideal Cert.Kernel3Ideal.Gen
open Cert.Proof.Post (mv rms)

variable (m : (ℓ : Loc nD τ sig) → Buf (Elt Ideal) ℓ) (ρ : Dev nD → PrngReg) (c : Dev nD)

/-! ## Where the blocks lie -/

/-- The blocks that are whole arrays. -/
theorem ix_whole (t : Fin cfg1.N) : (win1_1.index t 0 = 0 ∧ win1_1.index t 1 = 0) ∧ (win1_2.index t 0 = 0 ∧ win1_2.index t 1 = 0) ∧ (win1_3.index t 0 = 0 ∧ win1_3.index t 1 = 0) ∧ (win1_4.index t 0 = 0 ∧ win1_4.index t 1 = 0) ∧ (win1_7.index t 0 = 0 ∧ win1_7.index t 1 = 0) ∧ (win1_8.index t 0 = 0 ∧ win1_8.index t 1 = 0) ∧ (win1_9.index t 0 = 0 ∧ win1_9.index t 1 = 0) ∧ (win1_10.index t 0 = 0 ∧ win1_10.index t 1 = 0 ∧ win1_10.index t 2 = 0) :=
  (by decide +kernel : ∀ t : Fin grid1.N, (win1_1.index t 0 = 0 ∧ win1_1.index t 1 = 0) ∧ (win1_2.index t 0 = 0 ∧ win1_2.index t 1 = 0) ∧ (win1_3.index t 0 = 0 ∧ win1_3.index t 1 = 0) ∧ (win1_4.index t 0 = 0 ∧ win1_4.index t 1 = 0) ∧ (win1_7.index t 0 = 0 ∧ win1_7.index t 1 = 0) ∧ (win1_8.index t 0 = 0 ∧ win1_8.index t 1 = 0) ∧ (win1_9.index t 0 = 0 ∧ win1_9.index t 1 = 0) ∧ (win1_10.index t 0 = 0 ∧ win1_10.index t 1 = 0 ∧ win1_10.index t 2 = 0)) t

/-- The blocks of 512 rows. -/
theorem ix_rows (t : Fin cfg1.N) : (win1_0.index t 0 = t.val ∧ win1_0.index t 1 = 0) ∧ (win1_5.index t 0 = t.val ∧ win1_5.index t 1 = 0) ∧ (win1_6.index t 0 = t.val ∧ win1_6.index t 1 = 0) ∧ (win1_11.index t 0 = t.val ∧ win1_11.index t 1 = 0) ∧ (win1_12.index t 0 = t.val ∧ win1_12.index t 1 = 0) ∧ (win1_13.index t 0 = t.val ∧ win1_13.index t 1 = 0) ∧ (win1_14.index t 0 = t.val ∧ win1_14.index t 1 = 0) ∧ (win1_15.index t 0 = t.val ∧ win1_15.index t 1 = 0) ∧ (win1_17.index t 0 = t.val ∧ win1_17.index t 1 = 0) :=
  (by decide +kernel : ∀ t : Fin grid1.N, (win1_0.index t 0 = t.val ∧ win1_0.index t 1 = 0) ∧ (win1_5.index t 0 = t.val ∧ win1_5.index t 1 = 0) ∧ (win1_6.index t 0 = t.val ∧ win1_6.index t 1 = 0) ∧ (win1_11.index t 0 = t.val ∧ win1_11.index t 1 = 0) ∧ (win1_12.index t 0 = t.val ∧ win1_12.index t 1 = 0) ∧ (win1_13.index t 0 = t.val ∧ win1_13.index t 1 = 0) ∧ (win1_14.index t 0 = t.val ∧ win1_14.index t 1 = 0) ∧ (win1_15.index t 0 = t.val ∧ win1_15.index t 1 = 0) ∧ (win1_17.index t 0 = t.val ∧ win1_17.index t 1 = 0)) t

/-- The blocks of four groups of 128 tokens. -/
theorem ix_pairs (t : Fin cfg1.N) : (win1_16.index t 0 = t.val ∧ win1_16.index t 1 = 0 ∧ win1_16.index t 2 = 0) ∧ (win1_18.index t 0 = t.val ∧ win1_18.index t 1 = 0 ∧ win1_18.index t 2 = 0 ∧ win1_18.index t 3 = 0) ∧ (win1_19.index t 0 = t.val ∧ win1_19.index t 1 = 0 ∧ win1_19.index t 2 = 0 ∧ win1_19.index t 3 = 0) ∧ (win1_20.index t 0 = t.val ∧ win1_20.index t 1 = 0 ∧ win1_20.index t 2 = 0 ∧ win1_20.index t 3 = 0) :=
  (by decide +kernel : ∀ t : Fin grid1.N, (win1_16.index t 0 = t.val ∧ win1_16.index t 1 = 0 ∧ win1_16.index t 2 = 0) ∧ (win1_18.index t 0 = t.val ∧ win1_18.index t 1 = 0 ∧ win1_18.index t 2 = 0 ∧ win1_18.index t 3 = 0) ∧ (win1_19.index t 0 = t.val ∧ win1_19.index t 1 = 0 ∧ win1_19.index t 2 = 0 ∧ win1_19.index t 3 = 0) ∧ (win1_20.index t 0 = t.val ∧ win1_20.index t 1 = 0 ∧ win1_20.index t 2 = 0 ∧ win1_20.index t 3 = 0)) t

/-- Every block is written back. -/
theorem flush1 (w : Fin cfg1.W) (h : 11 ≤ w.val) (t : Fin cfg1.N) : (cfg1.win w).flush t = true :=
  (by decide +kernel : ∀ w : Fin cfg1.W, 11 ≤ w.val → ∀ t : Fin grid1.N, (cfg1.win w).flush t = true) w h t

/-- A block of a result array is what its grid point writes back, when no two points share a block. -/
theorem result_at (w : Fin cfg1.W) (hw : 11 ≤ w.val) (hk : (cfg1.win w).kind = .blocked)
    (hinj : ∀ t t' : Fin cfg1.N, (cfg1.win w).index t = (cfg1.win w).index t' → t = t') (t : Fin cfg1.N) :
    ((cfg1.win w).blk t).view.read (Elt Ideal) ((dat1 (V3 m ρ) c).arrAt w cfg1.N) = (dat1 (V3 m ρ) c).flushed w t :=
  (dat1 (V3 m ρ) c).read_blk_arrAt_eq_flushed w (fun t t' _ _ hne => (cfg1.win w).disjoint_blk (fun h => hne (hinj t t' h)) hk) cfg1.N t t.isLt (flush1 w hw t)

/-- What a result's block is computed of at point `t`. -/
def onBlk {α : Type} (t : Fin cfg1.N)
    (f : Vec Ideal S512x1024 .f32 → Vec Ideal S1x1024 .f32 → Vec Ideal S1024x2304 .bf16 → Vec Ideal S1024x1024 .bf16 → Vec Ideal S16x1024 .bf16
      → Vec Ideal S512x128 .f32 → Vec Ideal S512x128 .f32 → Vec Ideal S1x128 .f32 → Vec Ideal S1x64 .f32 → Vec Ideal S1x64 .f32 → Vec Ideal S8x128x64 .bf16 → α) : α :=
  f (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t)
    (iblk1 (V3 m ρ) c 6 t) (iblk1 (V3 m ρ) c 7 t) (iblk1 (V3 m ρ) c 8 t) (iblk1 (V3 m ρ) c 9 t) (iblk1 (V3 m ρ) c 10 t)

/-- Points whose first block coordinates are their own numbers share no block. -/
theorem inj_of {n : ℕ} {f : Fin cfg1.N → Fin (n + 1) → ℕ} (h0 : ∀ t, f t 0 = t.val) (t t' : Fin cfg1.N) (h : f t = f t') : t = t' :=
  Fin.ext ((h0 t).symm.trans ((congrFun h 0).trans (h0 t')))

variable (t : Fin cfg1.N)

theorem arr11 (R : Fin 16384) (r : Fin 512) (l : Fin 512) (hR : R.val = 512 * t.val + r.val) :
    (dat1 (V3 m ρ) c).arrAt 11 cfg1.N (ix2 R l) = onBlk m ρ c t (out1_11 (F := Ideal)) (ix2 r l) := by
  have e : ((cfg1.win 11).blk t).view.emb (ix2 r l) = ix2 R l := at_ix2 (at_blk (ix_rows t).2.2.2.1.1 hR) (at_zero (ix_rows t).2.2.2.1.2)
  rw [← e]
  refine (congrFun (result_at m ρ c 11 (by decide) rfl (inj_of fun t => (ix_rows t).2.2.2.1.1) t) (ix2 r l)).trans ?_
  show (cfg1.win 11).cut (grid1.coords t) ((dat1 (V3 m ρ) c).after 11 t) (ix2 r l) = _
  rw [after1_11]
  rfl

theorem arr12 (R : Fin 16384) (r : Fin 512) (l : Fin 512) (hR : R.val = 512 * t.val + r.val) :
    (dat1 (V3 m ρ) c).arrAt 12 cfg1.N (ix2 R l) = onBlk m ρ c t (out1_12 (F := Ideal)) (ix2 r l) := by
  have e : ((cfg1.win 12).blk t).view.emb (ix2 r l) = ix2 R l := at_ix2 (at_blk (ix_rows t).2.2.2.2.1.1 hR) (at_zero (ix_rows t).2.2.2.2.1.2)
  rw [← e]
  refine (congrFun (result_at m ρ c 12 (by decide) rfl (inj_of fun t => (ix_rows t).2.2.2.2.1.1) t) (ix2 r l)).trans ?_
  show (cfg1.win 12).cut (grid1.coords t) ((dat1 (V3 m ρ) c).after 12 t) (ix2 r l) = _
  rw [after1_12]
  rfl

theorem arr13 (R : Fin 16384) (r : Fin 512) (l : Fin 512) (hR : R.val = 512 * t.val + r.val) :
    (dat1 (V3 m ρ) c).arrAt 13 cfg1.N (ix2 R l) = onBlk m ρ c t (out1_13 (F := Ideal)) (ix2 r l) := by
  have e : ((cfg1.win 13).blk t).view.emb (ix2 r l) = ix2 R l := at_ix2 (at_blk (ix_rows t).2.2.2.2.2.1.1 hR) (at_zero (ix_rows t).2.2.2.2.2.1.2)
  rw [← e]
  refine (congrFun (result_at m ρ c 13 (by decide) rfl (inj_of fun t => (ix_rows t).2.2.2.2.2.1.1) t) (ix2 r l)).trans ?_
  show (cfg1.win 13).cut (grid1.coords t) ((dat1 (V3 m ρ) c).after 13 t) (ix2 r l) = _
  rw [after1_13]
  rfl

theorem arr14 (R : Fin 16384) (r : Fin 512) (l : Fin 512) (hR : R.val = 512 * t.val + r.val) :
    (dat1 (V3 m ρ) c).arrAt 14 cfg1.N (ix2 R l) = onBlk m ρ c t (out1_14 (F := Ideal)) (ix2 r l) := by
  have e : ((cfg1.win 14).blk t).view.emb (ix2 r l) = ix2 R l := at_ix2 (at_blk (ix_rows t).2.2.2.2.2.2.1.1 hR) (at_zero (ix_rows t).2.2.2.2.2.2.1.2)
  rw [← e]
  refine (congrFun (result_at m ρ c 14 (by decide) rfl (inj_of fun t => (ix_rows t).2.2.2.2.2.2.1.1) t) (ix2 r l)).trans ?_
  show (cfg1.win 14).cut (grid1.coords t) ((dat1 (V3 m ρ) c).after 14 t) (ix2 r l) = _
  rw [after1_14]
  rfl

theorem arr15 (R : Fin 16384) (r : Fin 512) (l : Fin 128) (hR : R.val = 512 * t.val + r.val) :
    (dat1 (V3 m ρ) c).arrAt 15 cfg1.N (ix2 R l) = onBlk m ρ c t (out1_15 (F := Ideal)) (ix2 r l) := by
  have e : ((cfg1.win 15).blk t).view.emb (ix2 r l) = ix2 R l := at_ix2 (at_blk (ix_rows t).2.2.2.2.2.2.2.1.1 hR) (at_zero (ix_rows t).2.2.2.2.2.2.2.1.2)
  rw [← e]
  refine (congrFun (result_at m ρ c 15 (by decide) rfl (inj_of fun t => (ix_rows t).2.2.2.2.2.2.2.1.1) t) (ix2 r l)).trans ?_
  show (cfg1.win 15).cut (grid1.coords t) ((dat1 (V3 m ρ) c).after 15 t) (ix2 r l) = _
  rw [after1_15]
  rfl

theorem arr17 (R : Fin 16384) (r : Fin 512) (l : Fin 64) (hR : R.val = 512 * t.val + r.val) :
    (dat1 (V3 m ρ) c).arrAt 17 cfg1.N (ix2 R l) = onBlk m ρ c t (out1_17 (F := Ideal)) (ix2 r l) := by
  have e : ((cfg1.win 17).blk t).view.emb (ix2 r l) = ix2 R l := at_ix2 (at_blk (ix_rows t).2.2.2.2.2.2.2.2.1 hR) (at_zero (ix_rows t).2.2.2.2.2.2.2.2.2)
  rw [← e]
  refine (congrFun (result_at m ρ c 17 (by decide) rfl (inj_of fun t => (ix_rows t).2.2.2.2.2.2.2.2.1) t) (ix2 r l)).trans ?_
  show (cfg1.win 17).cut (grid1.coords t) ((dat1 (V3 m ρ) c).after 17 t) (ix2 r l) = _
  rw [after1_17]
  rfl

theorem at_ix3 {n k q : ℕ} {i : (⟨3, ![n, k, q]⟩ : Shape).Idx} {a : Fin n} {b : Fin k} {d : Fin q} (h0 : (i 0).val = a.val) (h1 : (i 1).val = b.val) (h2 : (i 2).val = d.val) :
    i = ix3 a b d :=
  funext fun x => Fin.ext (match x with | ⟨0, _⟩ => h0 | ⟨1, _⟩ => h1 | ⟨2, _⟩ => h2)

theorem at_ix4 {n k q s : ℕ} {i : (⟨4, ![n, k, q, s]⟩ : Shape).Idx} {a : Fin n} {b : Fin k} {d : Fin q} {e : Fin s} (h0 : (i 0).val = a.val) (h1 : (i 1).val = b.val)
    (h2 : (i 2).val = d.val) (h3 : (i 3).val = e.val) : i = ix4 a b d e :=
  funext fun x => Fin.ext (match x with | ⟨0, _⟩ => h0 | ⟨1, _⟩ => h1 | ⟨2, _⟩ => h2 | ⟨3, _⟩ => h3)

theorem arr16 (C : Fin 128) (q : Fin 4) (l j : Fin 128) (hC : C.val = 4 * t.val + q.val) :
    (dat1 (V3 m ρ) c).arrAt 16 cfg1.N (ix3 C l j) = onBlk m ρ c t (out1_16 (F := Ideal)) (ix3 q l j) := by
  have e : ((cfg1.win 16).blk t).view.emb (ix3 q l j) = ix3 C l j := at_ix3 (at_blk (ix_pairs t).1.1 hC) (at_zero (ix_pairs t).1.2.1) (at_zero (ix_pairs t).1.2.2)
  rw [← e]
  refine (congrFun (result_at m ρ c 16 (by decide) rfl (inj_of fun t => (ix_pairs t).1.1) t) (ix3 q l j)).trans ?_
  show (cfg1.win 16).cut (grid1.coords t) ((dat1 (V3 m ρ) c).after 16 t) (ix3 q l j) = _
  rw [after1_16]
  rfl

theorem arr18 (C : Fin 128) (q p : Fin 4) (d : Fin 64) (j : Fin 256) (hC : C.val = 4 * t.val + q.val) :
    (dat1 (V3 m ρ) c).arrAt 18 cfg1.N (ix4 C p d j) = onBlk m ρ c t (out1_18 (F := Ideal)) (ix4 q p d j) := by
  have e : ((cfg1.win 18).blk t).view.emb (ix4 q p d j) = ix4 C p d j :=
    at_ix4 (at_blk (ix_pairs t).2.1.1 hC) (at_zero (ix_pairs t).2.1.2.1) (at_zero (ix_pairs t).2.1.2.2.1) (at_zero (ix_pairs t).2.1.2.2.2)
  rw [← e]
  refine (congrFun (result_at m ρ c 18 (by decide) rfl (inj_of fun t => (ix_pairs t).2.1.1) t) (ix4 q p d j)).trans ?_
  show (cfg1.win 18).cut (grid1.coords t) ((dat1 (V3 m ρ) c).after 18 t) (ix4 q p d j) = _
  rw [after1_18]
  rfl

theorem arr19 (C : Fin 128) (q p : Fin 4) (d : Fin 1) (j : Fin 256) (hC : C.val = 4 * t.val + q.val) :
    (dat1 (V3 m ρ) c).arrAt 19 cfg1.N (ix4 C p d j) = onBlk m ρ c t (out1_19 (F := Ideal)) (ix4 q p d j) := by
  have e : ((cfg1.win 19).blk t).view.emb (ix4 q p d j) = ix4 C p d j :=
    at_ix4 (at_blk (ix_pairs t).2.2.1.1 hC) (at_zero (ix_pairs t).2.2.1.2.1) (at_zero (ix_pairs t).2.2.1.2.2.1) (at_zero (ix_pairs t).2.2.1.2.2.2)
  rw [← e]
  refine (congrFun (result_at m ρ c 19 (by decide) rfl (inj_of fun t => (ix_pairs t).2.2.1.1) t) (ix4 q p d j)).trans ?_
  show (cfg1.win 19).cut (grid1.coords t) ((dat1 (V3 m ρ) c).after 19 t) (ix4 q p d j) = _
  rw [after1_19]
  rfl

theorem arr20 (C : Fin 128) (q p : Fin 4) (d : Fin 128) (j : Fin 256) (hC : C.val = 4 * t.val + q.val) :
    (dat1 (V3 m ρ) c).arrAt 20 cfg1.N (ix4 C p d j) = onBlk m ρ c t (out1_20 (F := Ideal)) (ix4 q p d j) := by
  have e : ((cfg1.win 20).blk t).view.emb (ix4 q p d j) = ix4 C p d j :=
    at_ix4 (at_blk (ix_pairs t).2.2.2.1 hC) (at_zero (ix_pairs t).2.2.2.2.1) (at_zero (ix_pairs t).2.2.2.2.2.1) (at_zero (ix_pairs t).2.2.2.2.2.2)
  rw [← e]
  refine (congrFun (result_at m ρ c 20 (by decide) rfl (inj_of fun t => (ix_pairs t).2.2.2.1) t) (ix4 q p d j)).trans ?_
  show (cfg1.win 20).cut (grid1.coords t) ((dat1 (V3 m ρ) c).after 20 t) (ix4 q p d j) = _
  rw [after1_20]
  rfl

/-! ## What the blocks hold -/

/-- A token's projected row. -/
def P (R : Fin 16384) : Fin 3272 → EReal :=
  prow (fun k => (m ((c : Thread nD τ).loc main_arg0) : Vec Ideal S16384x1024 .f32) (ix2 R k)) (fun k => (m ((c : Thread nD τ).loc main_arg2) : Vec Ideal S1024 .f32) (ix1 k))
    (fun k j => (m ((c : Thread nD τ).loc main_arg3) : Vec Ideal S1024x3272 .f32) (ix2 k j))

theorem blk0 (R : Fin 16384) (r : Fin 512) (k : Fin 1024) (hR : R.val = 512 * t.val + r.val) :
    iblk1 (V3 m ρ) c 0 t (ix2 r k) = (m ((c : Thread nD τ).loc main_arg0) : Vec Ideal S16384x1024 .f32) (ix2 R k) :=
  (congrFun (W3_args m ρ c main_arg0 (by decide)) _).trans (congrArg _ (at_ix2 (at_blk (ix_rows t).1.1 hR) (at_zero (ix_rows t).1.2)))

theorem blk1 (k : Fin 1024) : iblk1 (V3 m ρ) c 1 t (ix2 0 k) = (m ((c : Thread nD τ).loc main_arg2) : Vec Ideal S1024 .f32) (ix1 k) :=
  (congrArg (V3 m ρ c main_v43) (at_ix2 (at_zero (ix_whole t).1.1) (at_zero (ix_whole t).1.2))).trans (V_g2 m ρ c k)

theorem blk2 (k : Fin 1024) (l : Fin 2304) : iblk1 (V3 m ρ) c 2 t (ix2 k l) = (V3 m ρ c main_v30 : Vec Ideal S1024x2304 .bf16) (ix2 k l) :=
  congrArg (V3 m ρ c main_v30) (at_ix2 (at_zero (ix_whole t).2.1.1) (at_zero (ix_whole t).2.1.2))

theorem blk3 (l k : Fin 1024) : iblk1 (V3 m ρ) c 3 t (ix2 l k) = (V3 m ρ c main_v35 : Vec Ideal S1024x1024 .bf16) (ix2 l k) :=
  congrArg (V3 m ρ c main_v35) (at_ix2 (at_zero (ix_whole t).2.2.1.1) (at_zero (ix_whole t).2.2.1.2))

theorem blk4 (l : Fin 16) (k : Fin 1024) : iblk1 (V3 m ρ) c 4 t (ix2 l k) = (V3 m ρ c main_v40 : Vec Ideal S16x1024 .bf16) (ix2 l k) :=
  congrArg (V3 m ρ c main_v40) (at_ix2 (at_zero (ix_whole t).2.2.2.1.1) (at_zero (ix_whole t).2.2.2.1.2))

theorem blk5 (R : Fin 16384) (r : Fin 512) (l : Fin 128) (hR : R.val = 512 * t.val + r.val) :
    iblk1 (V3 m ρ) c 5 t (ix2 r l) = Ideal.cos (ang m c R ⟨l.val % 32, by omega⟩) :=
  (congrArg (V3 m ρ c main_v24_0) (at_ix2 (at_blk (ix_rows t).2.1.1 hR) (at_zero (ix_rows t).2.1.2))).trans (cos_apply m ρ c R l)

theorem blk6 (R : Fin 16384) (r : Fin 512) (l : Fin 128) (hR : R.val = 512 * t.val + r.val) :
    iblk1 (V3 m ρ) c 6 t (ix2 r l) = Ideal.sin (ang m c R ⟨l.val % 32, by omega⟩) * if l.val % 64 < 32 then (-1 : EReal) else (1 : EReal) :=
  (congrArg (V3 m ρ c main_v24_1) (at_ix2 (at_blk (ix_rows t).2.2.1.1 hR) (at_zero (ix_rows t).2.2.1.2))).trans (sin_apply m ρ c R l)

theorem blk7 (l : Fin 128) : iblk1 (V3 m ρ) c 7 t (ix2 0 l) = (m ((c : Thread nD τ).loc main_arg4) : Vec Ideal S128 .f32) (ix1 l) :=
  (congrArg (V3 m ρ c main_v44) (at_ix2 (at_zero (ix_whole t).2.2.2.2.1.1) (at_zero (ix_whole t).2.2.2.2.1.2))).trans (V_g4 m ρ c l)

theorem blk8 (l : Fin 64) : iblk1 (V3 m ρ) c 8 t (ix2 0 l) = (m ((c : Thread nD τ).loc main_arg5) : Vec Ideal S64 .f32) (ix1 l) :=
  (congrArg (V3 m ρ c main_v45) (at_ix2 (at_zero (ix_whole t).2.2.2.2.2.1.1) (at_zero (ix_whole t).2.2.2.2.2.1.2))).trans (V_g5 m ρ c l)

theorem blk9 (l : Fin 64) : iblk1 (V3 m ρ) c 9 t (ix2 0 l) = (m ((c : Thread nD τ).loc main_arg6) : Vec Ideal S64 .f32) (ix1 l) :=
  (congrArg (V3 m ρ c main_v46) (at_ix2 (at_zero (ix_whole t).2.2.2.2.2.2.1.1) (at_zero (ix_whole t).2.2.2.2.2.2.1.2))).trans (V_g6 m ρ c l)

theorem blk10 (h : Fin 8) (e : Fin 128) (d : Fin 64) : iblk1 (V3 m ρ) c 10 t (ix3 h e d) = (m ((c : Thread nD τ).loc main_arg7) : Vec Ideal S8x64x128 .f32) (ix3 h d e) :=
  (congrArg (V3 m ρ c main_v42) (at_ix3 (at_zero (ix_whole t).2.2.2.2.2.2.2.1) (at_zero (ix_whole t).2.2.2.2.2.2.2.2.1) (at_zero (ix_whole t).2.2.2.2.2.2.2.2.2))).trans (V_lift m ρ c h e d)

/-! ## The projected row, as the kernel lays it out -/

/-- A product with column `l` of some weights is lane `j` of the projected row, when that column is the weights' column `j`. -/
theorem mv_col {n : ℕ} (R : Fin 16384) (r : Fin 512) (hR : R.val = 512 * t.val + r.val) (w : Fin 1024 → Fin n → EReal) (l : Fin n) (j : Fin 3272)
    (h : ∀ k, w k l = (m ((c : Thread nD τ).loc main_arg3) : Vec Ideal S1024x3272 .f32) (ix2 k j)) :
    mv (rms (fun k => iblk1 (V3 m ρ) c 0 t (ix2 r k)) (fun k => iblk1 (V3 m ρ) c 1 t (ix2 0 k))) w l = P m c R j := by
  rw [show (fun k => iblk1 (V3 m ρ) c 0 t (ix2 r k)) = _ from funext fun k => blk0 m ρ c t R r k hR,
    show (fun k => iblk1 (V3 m ρ) c 1 t (ix2 0 k)) = _ from funext fun k => blk1 m ρ c t k]
  exact Finset.sum_congr rfl fun k _ => congrArg (_ * ·) (h k)

section
variable (R : Fin 16384) (r : Fin 512) (hR : R.val = 512 * t.val + r.val)
include hR

theorem pt_lo (l : Fin 2304) (j : Fin 3272) (h : l.val < 2048) (hj : j.val = l.val) :
    k1_pay3 (F := Ideal) (iblk1 (V3 m ρ) c 0 t) (iblk1 (V3 m ρ) c 1 t) (iblk1 (V3 m ρ) c 2 t) (ix2 r l) = P m c R j :=
  (pay3_apply _ _ _ r l).trans (mv_col m ρ c t R r hR _ l j fun k => (blk2 m ρ c t k l).trans ((V_wt_lo m ρ c k l h).trans (congrArg _ (ix2_congr rfl hj.symm))))

theorem pt_mid (l : Fin 2304) (j : Fin 3272) (h : 2048 ≤ l.val) (h' : l.val < 2176) (hj : j.val = l.val + 512) :
    k1_pay3 (F := Ideal) (iblk1 (V3 m ρ) c 0 t) (iblk1 (V3 m ρ) c 1 t) (iblk1 (V3 m ρ) c 2 t) (ix2 r l) = P m c R j :=
  (pay3_apply _ _ _ r l).trans (mv_col m ρ c t R r hR _ l j fun k => (blk2 m ρ c t k l).trans ((V_wt_mid m ρ c k l h h').trans (congrArg _ (ix2_congr rfl hj.symm))))

theorem pt_hi (l : Fin 2304) (j : Fin 3272) (h : 2176 ≤ l.val) (h' : l.val < 2240) (hj : j.val = l.val + 1024) :
    k1_pay3 (F := Ideal) (iblk1 (V3 m ρ) c 0 t) (iblk1 (V3 m ρ) c 1 t) (iblk1 (V3 m ρ) c 2 t) (ix2 r l) = P m c R j :=
  (pay3_apply _ _ _ r l).trans (mv_col m ρ c t R r hR _ l j fun k => (blk2 m ρ c t k l).trans ((V_wt_hi m ρ c k l h h').trans (congrArg _ (ix2_congr rfl hj.symm))))

theorem pf_lo (l : Fin 1024) (j : Fin 3272) (h : l.val < 512) (hj : j.val = l.val + 2048) :
    k1_pay4 (F := Ideal) (iblk1 (V3 m ρ) c 0 t) (iblk1 (V3 m ρ) c 1 t) (iblk1 (V3 m ρ) c 3 t) (ix2 l r) = P m c R j :=
  (pay4_apply _ _ _ l r).trans (mv_col m ρ c t R r hR _ l j fun k => (blk3 m ρ c t l k).trans ((V_wf_lo m ρ c l k h).trans (congrArg _ (ix2_congr rfl hj.symm))))

theorem pf_hi (l : Fin 1024) (j : Fin 3272) (h : 512 ≤ l.val) (hj : j.val = l.val + 2176) :
    k1_pay4 (F := Ideal) (iblk1 (V3 m ρ) c 0 t) (iblk1 (V3 m ρ) c 1 t) (iblk1 (V3 m ρ) c 3 t) (ix2 l r) = P m c R j :=
  (pay4_apply _ _ _ l r).trans (mv_col m ρ c t R r hR _ l j fun k => (blk3 m ρ c t l k).trans ((V_wf_hi m ρ c l k h).trans (congrArg _ (ix2_congr rfl hj.symm))))

theorem pw_row (l : Fin 16) (j : Fin 3272) (h : l.val < 8) (hj : j.val = l.val + 3264) :
    k1_pay5 (F := Ideal) (iblk1 (V3 m ρ) c 0 t) (iblk1 (V3 m ρ) c 1 t) (iblk1 (V3 m ρ) c 4 t) (ix2 l r) = P m c R j :=
  (pay5_apply _ _ _ l r).trans (mv_col m ρ c t R r hR _ l j fun k => (blk4 m ρ c t l k).trans ((V_wfw m ρ c l k h).trans (congrArg _ (ix2_congr rfl hj.symm))))

omit hR in
theorem select_one (x y : EReal) : Scalar.select 1#1 x y = x := rfl

omit hR in
theorem select_zero (x y : EReal) : Scalar.select 0#1 x y = y := rfl

/-- The rotation in the kernel's form: the first half of a head less its partner's sine, the second half with it. -/
theorem turn_rot (o : ℕ) (ho : o ≤ 512) (p : Fin 2304 → EReal) (l : Fin 512) (hp : ∀ (l : Fin 2304) (j : Fin 3272), l.val < 2048 → j.val = l.val → p l = P m c R j) :
    turn p o ho (fun j => iblk1 (V3 m ρ) c 5 t (ix2 r j)) (fun j => iblk1 (V3 m ρ) c 6 t (ix2 r j)) (first (ix2 r ⟨l.val % 128, by omega⟩)) l
      = rot (fun l : Fin 512 => P m c R ⟨o + l.val, by omega⟩) (fun i => Ideal.cos (ang m c R i)) (fun i => Ideal.sin (ang m c R i)) l := by
  have hi : (⟨l.val % 128 % 32, by omega⟩ : Fin 32) = ⟨l.val % 32, by omega⟩ := Fin.ext (by dsimp only; omega)
  unfold turn rot
  dsimp only
  rw [first_apply, blk5 m ρ c t R r _ hR, blk6 m ρ c t R r _ hR]
  dsimp only
  by_cases h : l.val % 64 < 32
  · have h' : l.val % 128 % 64 < 32 := by omega
    rw [if_pos h', if_pos h', dif_pos h, select_one]
    rw [hi, mul_neg_one, mul_neg, sub_eq_add_neg]
    exact congrArg₂ (· + ·) (congrArg (· * _) (hp _ _ (by dsimp only; omega) rfl)) (congrArg (fun z => -(z * _)) (hp _ _ (by dsimp only; omega) (by dsimp only; omega)))
  · have h' : ¬ l.val % 128 % 64 < 32 := by omega
    rw [if_neg h', if_neg h', dif_neg h, select_zero]
    rw [hi, mul_one, add_comm]
    exact congrArg₂ (· + ·) (congrArg (· * _) (hp _ _ (by dsimp only; omega) (by dsimp only; omega))) (congrArg (· * _) (hp _ _ (by dsimp only; omega) rfl))
end

end Cert.Proof.Proj

end
-- ==== Proof.ProjOut.lean ====
/-
  The kernel's ten results of the input projection at a token: each the spec of the token's projected row.
-/
module

public import proofs.«01_k».proof.Proof.ProjBlk

@[expose] public section

set_option maxRecDepth 16384

noncomputable section

open Idealize.ShloMosaic Idealize.ShloMosaic.TcCoe Idealize.SL.Sem Idealize.ShloMosaic.StableHlo

namespace Cert.Proof.Proj

open Cert.Kernel3Ideal Cert.Kernel3Ideal.Gen

variable (m : (ℓ : Loc nD τ sig) → Buf (Elt Ideal) ℓ) (ρ : Dev nD → PrngReg) (c : Dev nD)

/-- The grid point of a token. -/
def pt (R : Fin 16384) : Fin cfg1.N := ⟨R.val / 512, by rw [show cfg1.N = 32 from N_1]; have := R.isLt; omega⟩

/-- The token's row of its block. -/
def rowOf (R : Fin 16384) : Fin 512 := ⟨R.val % 512, by omega⟩

theorem pt_row (R : Fin 16384) : R.val = 512 * (pt R).val + (rowOf R).val := by
  show R.val = 512 * (R.val / 512) + R.val % 512
  omega

/-- The grid point of a group of 128 tokens. -/
def ptC (C : Fin 128) : Fin cfg1.N := ⟨C.val / 4, by rw [show cfg1.N = 32 from N_1]; have := C.isLt; omega⟩

/-- The group's number in its block. -/
def inC (C : Fin 128) : Fin 4 := ⟨C.val % 4, by omega⟩

theorem pt_grp (C : Fin 128) : C.val = 4 * (ptC C).val + (inC C).val := by
  show C.val = 4 * (C.val / 4) + C.val % 4
  omega

theorem grp_row (C j : Fin 128) : C.val * 128 + j.val = 512 * (ptC C).val + ((inC C).val * 128 + j.val) := by
  show C.val * 128 + j.val = 512 * (C.val / 4) + (C.val % 4 * 128 + j.val)
  omega

theorem grp_lane (C : Fin 128) (j : Fin 256) : C.val * 128 + j.val % 128 = 512 * (ptC C).val + ((inC C).val * 128 + j.val % 128) :=
  grp_row C ⟨j.val % 128, by omega⟩

theorem kernel11 (R : Fin 16384) (l : Fin 512) :
    (dat1 (V3 m ρ) c).arrAt 11 cfg1.N (ix2 R l)
      = rot (fun l : Fin 512 => P m c R ⟨l.val, by omega⟩) (fun i => Ideal.cos (ang m c R i)) (fun i => Ideal.sin (ang m c R i)) l := by
  refine (arr11 m ρ c (pt R) R (rowOf R) l (pt_row R)).trans ((out11_apply _ _ _ _ _ _ _ _ _ _ _ (rowOf R) l).trans ?_)
  refine (turn_rot m ρ c (pt R) R (rowOf R) (pt_row R) 0 (by omega) _ l fun l j h hj => pt_lo m ρ c (pt R) R (rowOf R) (pt_row R) l j h hj).trans ?_
  exact congrArg (fun z => rot z _ _ l) (funext fun l => congrArg _ (Fin.ext (Nat.zero_add _)))

theorem kernel12 (R : Fin 16384) (l : Fin 512) :
    (dat1 (V3 m ρ) c).arrAt 12 cfg1.N (ix2 R l)
      = rot (fun l : Fin 512 => P m c R ⟨512 + l.val, by omega⟩) (fun i => Ideal.cos (ang m c R i)) (fun i => Ideal.sin (ang m c R i)) l * Ideal.ofBits .f32 0x3E000000#32 := by
  refine (arr12 m ρ c (pt R) R (rowOf R) l (pt_row R)).trans ((out12_apply _ _ _ _ _ _ _ _ _ _ _ (rowOf R) l).trans ?_)
  exact congrArg (· * _) (turn_rot m ρ c (pt R) R (rowOf R) (pt_row R) 512 (by omega) _ l fun l j h hj => pt_lo m ρ c (pt R) R (rowOf R) (pt_row R) l j h hj)

theorem kernel13 (R : Fin 16384) (l : Fin 512) : (dat1 (V3 m ρ) c).arrAt 13 cfg1.N (ix2 R l) = P m c R ⟨1024 + l.val, by omega⟩ :=
  (arr13 m ρ c (pt R) R (rowOf R) l (pt_row R)).trans ((out13_apply _ _ _ _ _ _ _ _ _ _ _ (rowOf R) l).trans
    (pt_lo m ρ c (pt R) R (rowOf R) (pt_row R) _ _ (by dsimp only; omega) rfl))

theorem kernel14 (R : Fin 16384) (l : Fin 512) : (dat1 (V3 m ρ) c).arrAt 14 cfg1.N (ix2 R l) = swish (fun l : Fin 512 => P m c R ⟨1536 + l.val, by omega⟩) l :=
  (arr14 m ρ c (pt R) R (rowOf R) l (pt_row R)).trans ((out14_apply _ _ _ _ _ _ _ _ _ _ _ (rowOf R) l).trans
    (congrArg (fun z => swish z l) (funext fun l => pt_lo m ρ c (pt R) R (rowOf R) (pt_row R) _ _ (by dsimp only; omega) rfl)))

/-- The latent row, from any of its token's two layouts. -/
theorem latent_eq (t : Fin cfg1.N) (R : Fin 16384) (r : Fin 512) (hR : R.val = 512 * t.val + r.val) (l : Fin 128) :
    latent (fun l : Fin 128 => k1_pay3 (F := Ideal) (iblk1 (V3 m ρ) c 0 t) (iblk1 (V3 m ρ) c 1 t) (iblk1 (V3 m ρ) c 2 t) (ix2 r ⟨2048 + l.val, by omega⟩))
        (fun l => iblk1 (V3 m ρ) c 7 t (ix2 0 l)) l
      = latent (fun l : Fin 128 => P m c R ⟨2560 + l.val, by omega⟩) (fun l => (m ((c : Thread nD τ).loc main_arg4) : Vec Ideal S128 .f32) (ix1 l)) l :=
  congrArg₂ (fun z w => latent z w l) (funext fun l => pt_mid m ρ c t R r hR _ _ (by dsimp only; omega) (by dsimp only; omega) (by dsimp only; omega))
    (funext fun l => blk7 m ρ c t l)

theorem kernel15 (R : Fin 16384) (l : Fin 128) :
    (dat1 (V3 m ρ) c).arrAt 15 cfg1.N (ix2 R l)
      = latent (fun l : Fin 128 => P m c R ⟨2560 + l.val, by omega⟩) (fun l => (m ((c : Thread nD τ).loc main_arg4) : Vec Ideal S128 .f32) (ix1 l)) l :=
  (arr15 m ρ c (pt R) R (rowOf R) l (pt_row R)).trans ((out15_apply _ _ _ _ _ _ _ _ _ _ _ (rowOf R) l).trans (latent_eq m ρ c (pt R) R (rowOf R) (pt_row R) l))

theorem kernel16 (C l j : Fin 128) :
    (dat1 (V3 m ρ) c).arrAt 16 cfg1.N (ix3 C l j)
      = latent (fun l : Fin 128 => P m c ⟨C.val * 128 + j.val, by omega⟩ ⟨2560 + l.val, by omega⟩) (fun l => (m ((c : Thread nD τ).loc main_arg4) : Vec Ideal S128 .f32) (ix1 l)) l :=
  (arr16 m ρ c (ptC C) C (inC C) l j (pt_grp C)).trans ((out16_apply _ _ _ _ _ _ _ _ _ _ _ (inC C) l j).trans
    ((pay21_apply _ _ _ l).trans (latent_eq m ρ c (ptC C) _ _ (grp_row C j) l)))

theorem kernel17 (R : Fin 16384) (l : Fin 64) :
    (dat1 (V3 m ρ) c).arrAt 17 cfg1.N (ix2 R l)
      = lnorm (fun l : Fin 64 => P m c R ⟨3200 + l.val, by omega⟩) (fun l => (m ((c : Thread nD τ).loc main_arg5) : Vec Ideal S64 .f32) (ix1 l))
          (fun l => (m ((c : Thread nD τ).loc main_arg6) : Vec Ideal S64 .f32) (ix1 l)) l := by
  refine (arr17 m ρ c (pt R) R (rowOf R) l (pt_row R)).trans ((out17_apply _ _ _ _ _ _ _ _ _ _ _ (rowOf R) l).trans ?_)
  refine (congrArg₂ (fun z w => lnorm z w _ l) (funext fun l => pt_hi m ρ c (pt R) R (rowOf R) (pt_row R) _ ⟨3200 + l.val, by omega⟩ (by dsimp only; omega) (by dsimp only; omega) (by dsimp only; omega))
    (funext fun l => blk8 m ρ c (pt R) l)).trans ?_
  exact congrArg (fun z => lnorm _ _ z l) (funext fun l => blk9 m ρ c (pt R) l)

theorem kernel18 (C : Fin 128) (p : Fin 4) (d : Fin 64) (j : Fin 256) :
    (dat1 (V3 m ρ) c).arrAt 18 cfg1.N (ix4 C p d j)
      = P m c ⟨C.val * 128 + j.val % 128, by omega⟩ ⟨2688 + ((2 * p.val + j.val / 128) * 64 + d.val), by omega⟩ :=
  (arr18 m ρ c (ptC C) C (inC C) p d j (pt_grp C)).trans ((out18_apply _ _ _ _ _ _ _ _ _ _ _ (inC C) p d j).trans
    (pf_hi m ρ c (ptC C) _ _ (grp_lane C j) _ _ (by dsimp only; omega) (by dsimp only; omega)))

theorem kernel19 (C : Fin 128) (p : Fin 4) (j : Fin 256) :
    (dat1 (V3 m ρ) c).arrAt 19 cfg1.N (ix4 C p 0 j)
      = P m c ⟨C.val * 128 + j.val % 128, by omega⟩ ⟨3264 + (2 * p.val + j.val / 128), by omega⟩ * Ideal.ofBits .f32 0x3D3504F3#32 :=
  (arr19 m ρ c (ptC C) C (inC C) p 0 j (pt_grp C)).trans ((out19_apply _ _ _ _ _ _ _ _ _ _ _ (inC C) p j).trans
    (congrArg (· * _) (pw_row m ρ c (ptC C) _ _ (grp_lane C j) _ _ (by dsimp only; omega) (by dsimp only; omega))))

/-- A scaled sum of products, factor by factor. -/
theorem sum_mul_congr {x y x' y' : Fin 64 → EReal} {s : EReal} (hx : ∀ k, x k = x' k) (hy : ∀ k, y k = y' k) :
    (∑ k, x k * y k) * s = (∑ k, x' k * y' k) * s := by
  simp only [hx, hy]

/-- The factors that lift a head's queries into the latent space. -/
def liftw (h : Fin 8) (d : Fin 64) (e : Fin 128) : EReal := (m ((c : Thread nD τ).loc main_arg7) : Vec Ideal S8x64x128 .f32) (ix3 h d e)

theorem kernel20 (C : Fin 128) (p : Fin 4) (e : Fin 128) (j : Fin 256) :
    (dat1 (V3 m ρ) c).arrAt 20 cfg1.N (ix4 C p e j)
      = (∑ k : Fin 64, liftw m c ⟨2 * p.val + j.val / 128, by omega⟩ k e
          * P m c ⟨C.val * 128 + j.val % 128, by omega⟩ ⟨2048 + ((2 * p.val + j.val / 128) * 64 + k.val), by omega⟩)
        * Ideal.ofBits .f32 0x3E000000#32 :=
  (arr20 m ρ c (ptC C) C (inC C) p e j (pt_grp C)).trans ((out20_apply _ _ _ _ _ _ _ _ _ _ _ (inC C) p e j).trans
    (sum_mul_congr (fun k => blk10 m ρ c (ptC C) _ e k)
      (fun k => pf_lo m ρ c (ptC C) _ _ (grp_lane C j) _ _ (by dsimp only; omega) (by dsimp only; omega))))

end Cert.Proof.Proj

end
-- ==== Proof.ProjRef.lean ====
/-
  The reference of the input projection: what its stages hold at a token's row and a lane, as the spec of that row.
-/
module

public import proofs.«01_k».proof.Proof.Gen.Reference3Ideal.Read
public import proofs.«01_k».proof.Proof.ProjSpec

@[expose] public section

set_option maxRecDepth 16384

noncomputable section

open Idealize.ShloMosaic

namespace Cert.Proof.ProjRef

open Cert.Proof.Post Cert.Proof.Proj Cert.Reference3Ideal Cert.Reference3Ideal.Gen Cert.Reference3Ideal.Read

variable (x0 : Vec Ideal S16384x1024 .f32) (x1 : Vec Ideal S8x2048 .i32) (x2 : Vec Ideal S1024 .f32) (x3 : Vec Ideal S1024x3272 .f32)
  (x4 : Vec Ideal S128 .f32) (x5 x6 : Vec Ideal S64 .f32) (x7 : Vec Ideal S8x64x128 .f32)

theorem v12_apply (R : Fin 16384) (l : Fin 1024) :
    val_main_v12 (F := Ideal) x0 x2 (ix2 R l) = rms (fun k => x0 (ix2 R k)) (fun k => x2 (ix1 k)) l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v13_apply (R : Fin 16384) (l : Fin 3272) :
    val_main_v13 (F := Ideal) x0 x2 x3 (ix2 R l) = prow (fun k => x0 (ix2 R k)) (fun k => x2 (ix1 k)) (fun k j => x3 (ix2 k j)) l := by
  unfold val_main_v13
  generalize h : val_main_v12 (F := Ideal) x0 x2 = y
  pointwise []
  subst h
  exact Finset.sum_congr rfl fun k _ => congrArg (· * _) (v12_apply x0 x2 R k)

theorem v42_apply (a : Fin 8) (b : Fin 2048) (i : Fin 32) :
    val_main_v42 (F := Ideal) x1 (ix4 a b 0 i) = Ideal.cos (FloatOps.sitofp (F := Ideal) .f32 (x1 (ix2 a b)) * freq i) := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_cst_2, val_main_cst_3, val_main_cst_4, val_main_cst_5, val_main_cst_6, freq]

theorem v44_apply (a : Fin 8) (b : Fin 2048) (i : Fin 32) :
    val_main_v44 (F := Ideal) x1 (ix4 a b 0 i) = Ideal.sin (FloatOps.sitofp (F := Ideal) .f32 (x1 (ix2 a b)) * freq i) := by
  pointwise [val_main_v44, val_main_v43, val_main_v40, val_main_v39, val_main_v38, val_main_v37, val_main_v36, val_main_v35, val_main_v34, val_main_v33, val_main_v32, val_main_v31, val_main_v30, val_main_v29, val_main_v28, val_main_v27, val_main_v26, val_main_v25, val_main_v24, val_main_cst_2, val_main_cst_3, val_main_cst_4, val_main_cst_5, val_main_cst_6, freq]

theorem v77_eq : val_main_v77 (F := Ideal) x1 = val_main_v42 x1 := rfl
theorem v79_eq : val_main_v79 (F := Ideal) x1 = val_main_v44 x1 := rfl

/-- A table of the rotation, for every head. -/
def table (t : Vec Ideal S8x2048x1x32 .f32) : Vec Ideal S8x2048x8x32 .f32 := (broadcastInDim S8x2048x8x32 ![0, 1, 2, 3] bcast_S8x2048x1x32_S8x2048x8x32_0_1_2_3 t)

/-- The halves of eight heads of 64 lanes. -/
def half1 (y : Vec Ideal S8x2048x8x64 .f32) : Vec Ideal S8x2048x8x32 .f32 := (extractStridedSlice S8x2048x8x32 ![0, 0, 0, 0] y slices_S8x2048x8x64_S8x2048x8x32_0_0_0_0)
def half2 (y : Vec Ideal S8x2048x8x64 .f32) : Vec Ideal S8x2048x8x32 .f32 := (extractStridedSlice S8x2048x8x32 ![0, 0, 0, 32] y slices_S8x2048x8x64_S8x2048x8x32_0_0_0_32)

def turned1 (y : Vec Ideal S8x2048x8x64 .f32) (cs sn : Vec Ideal S8x2048x1x32 .f32) : Vec Ideal S8x2048x8x32 .f32 :=
  subf (F := Ideal) (φ := .f32) (mulf (F := Ideal) (φ := .f32) (half1 y) (table cs)) (mulf (F := Ideal) (φ := .f32) (half2 y) (table sn))
def turned2 (y : Vec Ideal S8x2048x8x64 .f32) (cs sn : Vec Ideal S8x2048x1x32 .f32) : Vec Ideal S8x2048x8x32 .f32 :=
  addf (F := Ideal) (φ := .f32) (mulf (F := Ideal) (φ := .f32) (half1 y) (table sn)) (mulf (F := Ideal) (φ := .f32) (half2 y) (table cs))

/-- Eight heads of 64 lanes, each half rotated against the other. -/
def turned (y : Vec Ideal S8x2048x8x64 .f32) (cs sn : Vec Ideal S8x2048x1x32 .f32) : Vec Ideal S8x2048x8x64 .f32 :=
  concatenate S8x2048x8x64 3 [⟨S8x2048x8x32, turned1 y cs sn⟩, ⟨S8x2048x8x32, turned2 y cs sn⟩] concatenates_S8x2048x8x32_S8x2048x8x32_S8x2048x8x64_d3

theorem v57_eq : val_main_v57 (F := Ideal) x0 x1 x2 x3 = turned (val_main_v23 x0 x2 x3) (val_main_v42 x1) (val_main_v44 x1) := rfl
theorem v92_eq : val_main_v92 (F := Ideal) x0 x1 x2 x3 = turned (val_main_v58 x0 x2 x3) (val_main_v42 x1) (val_main_v44 x1) := rfl

theorem turned_apply (y : Vec Ideal S16384x512 .f32) (cs sn : Vec Ideal S8x2048x1x32 .f32) (R : Fin 16384) (l : Fin 512) :
    turned (shapeCast S8x2048x8x64 y shapeCasts_S16384x512_S8x2048x8x64) cs sn (ix4 ⟨R.val / 2048, by omega⟩ ⟨R.val % 2048, by omega⟩ ⟨l.val / 64, by omega⟩ ⟨l.val % 64, by omega⟩)
      = rot (fun l => y (ix2 R l)) (fun i => cs (ix4 ⟨R.val / 2048, by omega⟩ ⟨R.val % 2048, by omega⟩ 0 i)) (fun i => sn (ix4 ⟨R.val / 2048, by omega⟩ ⟨R.val % 2048, by omega⟩ 0 i)) l := by
  pointwise [turned, turned1, turned2, half1, half2, table]
  unfold rot
  by_cases h : l.val % 64 < 32
  · have e : (⟨l.val % 64, h⟩ : Fin 32) = ⟨l.val % 32, by omega⟩ := Fin.ext (by dsimp only; omega)
    refine (dif_pos h).trans (Eq.trans ?_ (dif_pos h).symm)
    exact congrArg₂ (· - ·) (congrArg (y (ix2 R l) * ·) (congrArg (fun i => cs (ix4 _ _ 0 i)) e))
      (congrArg₂ (· * ·) (congrArg y (ix2_congr rfl (by dsimp only; omega))) (congrArg (fun i => sn (ix4 _ _ 0 i)) e))
  · have e : (⟨l.val % 64 - 32, by omega⟩ : Fin 32) = ⟨l.val % 32, by omega⟩ := Fin.ext (by dsimp only; omega)
    refine (dif_neg h).trans (Eq.trans ?_ (dif_neg h).symm)
    exact congrArg₂ (· + ·)
      (congrArg₂ (· * ·) (congrArg y (ix2_congr rfl (by dsimp only; omega))) (congrArg (fun i => sn (ix4 _ _ 0 i)) e))
      (congrArg₂ (· * ·) (congrArg y (ix2_congr rfl (by dsimp only; omega))) (congrArg (fun i => cs (ix4 _ _ 0 i)) e))

/-- The rotation's angle of a token and a lane. -/
def angle (R : Fin 16384) (i : Fin 32) : EReal := FloatOps.sitofp (F := Ideal) .f32 (x1 (ix2 ⟨R.val / 2048, by omega⟩ ⟨R.val % 2048, by omega⟩)) * freq i

theorem v140_apply (R : Fin 16384) (l : Fin 512) :
    val_main_v140 (F := Ideal) x0 x1 x2 x3 (ix2 R l)
      = rot (fun l => prow (fun k => x0 (ix2 R k)) (fun k => x2 (ix1 k)) (fun k j => x3 (ix2 k j)) ⟨l.val, by omega⟩) (fun i => Ideal.cos (angle x1 R i)) (fun i => Ideal.sin (angle x1 R i)) l := by
  simp only [angle, ← v13_apply, ← v42_apply, ← v44_apply]
  unfold val_main_v140 val_main_v139
  rw [v57_eq]
  generalize hz : turned (val_main_v23 x0 x2 x3) (val_main_v42 x1) (val_main_v44 x1) = z
  pointwise []
  subst hz
  refine (turned_apply (val_main_v14 x0 x2 x3) _ _ R l).trans ?_
  unfold val_main_v14
  generalize val_main_v13 (F := Ideal) x0 x2 x3 = y
  pointwise []

theorem v142_apply (R : Fin 16384) (l : Fin 512) :
    val_main_v142 (F := Ideal) x0 x1 x2 x3 (ix2 R l)
      = rot (fun l => prow (fun k => x0 (ix2 R k)) (fun k => x2 (ix1 k)) (fun k j => x3 (ix2 k j)) ⟨512 + l.val, by omega⟩) (fun i => Ideal.cos (angle x1 R i)) (fun i => Ideal.sin (angle x1 R i)) l
        * Ideal.ofBits .f32 0x3E000000#32 := by
  simp only [angle, ← v13_apply, ← v42_apply, ← v44_apply]
  unfold val_main_v142 val_main_v141 val_main_v94
  rw [v92_eq]
  generalize hz : turned (val_main_v58 x0 x2 x3) (val_main_v42 x1) (val_main_v44 x1) = z
  pointwise [val_main_v93, val_main_cst_12]
  subst hz
  refine congrArg (· * _) ((turned_apply (val_main_v15 x0 x2 x3) _ _ R l).trans ?_)
  unfold val_main_v15
  generalize val_main_v13 (F := Ideal) x0 x2 x3 = y
  pointwise []

theorem v143_apply (R : Fin 16384) (l : Fin 512) :
    val_main_v143 (F := Ideal) x0 x2 x3 (ix2 R l) = prow (fun k => x0 (ix2 R k)) (fun k => x2 (ix1 k)) (fun k j => x3 (ix2 k j)) ⟨1024 + l.val, by omega⟩ := by
  rw [← v13_apply]
  unfold val_main_v143 val_main_v16
  generalize val_main_v13 (F := Ideal) x0 x2 x3 = y
  pointwise []

theorem v145_apply (R : Fin 16384) (l : Fin 512) :
    val_main_v145 (F := Ideal) x0 x2 x3 (ix2 R l) = swish (fun l : Fin 512 => prow (fun k => x0 (ix2 R k)) (fun k => x2 (ix1 k)) (fun k j => x3 (ix2 k j)) ⟨1536 + l.val, by omega⟩) l := by
  simp only [← v13_apply]
  unfold val_main_v145 val_main_v144 val_main_call0_v5 val_main_call0_v3 val_main_call0_v1 val_main_call0_v0 val_main_v17
  generalize val_main_v13 (F := Ideal) x0 x2 x3 = y
  pointwise [val_main_call0_v4, val_main_call0_v2, val_main_call0_cst, val_main_call0_cst_0]
  rfl

theorem v107_apply (R : Fin 16384) (l : Fin 128) :
    val_main_v107 (F := Ideal) x0 x2 x3 x4 (ix2 R l) = latent (fun l : Fin 128 => prow (fun k => x0 (ix2 R k)) (fun k => x2 (ix1 k)) (fun k j => x3 (ix2 k j)) ⟨2560 + l.val, by omega⟩) (fun l => x4 (ix1 l)) l := by
  simp only [← v13_apply]
  unfold val_main_v107 val_main_v104 val_main_v103 val_main_v102 val_main_v101 val_main_v99 val_main_v97 val_main_v96 val_main_v95 val_main_v19
  generalize val_main_v13 (F := Ideal) x0 x2 x3 = y
  pointwise [val_main_v106, val_main_v105, val_main_v100, val_main_v98, val_main_cst_13, val_main_cst_14, val_main_cst_15]
  rfl

theorem v146_apply (R : Fin 16384) (l : Fin 128) :
    val_main_v146 (F := Ideal) x0 x2 x3 x4 (ix2 R l) = latent (fun l : Fin 128 => prow (fun k => x0 (ix2 R k)) (fun k => x2 (ix1 k)) (fun k j => x3 (ix2 k j)) ⟨2560 + l.val, by omega⟩) (fun l => x4 (ix1 l)) l :=
  v107_apply x0 x2 x3 x4 R l

theorem v149_apply (c e j : Fin 128) :
    val_main_v149 (F := Ideal) x0 x2 x3 x4 (ix3 c e j)
      = latent (fun l : Fin 128 => prow (fun k => x0 (ix2 ⟨c.val * 128 + j.val, by omega⟩ k)) (fun k => x2 (ix1 k)) (fun k j => x3 (ix2 k j)) ⟨2560 + l.val, by omega⟩) (fun l => x4 (ix1 l)) e := by
  rw [← v107_apply]
  unfold val_main_v149 val_main_v148 val_main_v147
  generalize val_main_v107 (F := Ideal) x0 x2 x3 x4 = y
  pointwise []

theorem v150_apply (R : Fin 16384) (l : Fin 64) :
    val_main_v150 (F := Ideal) x0 x2 x3 x5 x6 (ix2 R l)
      = lnorm (fun l : Fin 64 => prow (fun k => x0 (ix2 R k)) (fun k => x2 (ix1 k)) (fun k j => x3 (ix2 k j)) ⟨3200 + l.val, by omega⟩) (fun l => x5 (ix1 l)) (fun l => x6 (ix1 l)) l := by
  simp only [← v13_apply]
  unfold val_main_v150 val_main_v136 val_main_v133 val_main_v130 val_main_v129 val_main_v128 val_main_v127 val_main_v125 val_main_v124 val_main_v123 val_main_v121 val_main_v120 val_main_v119 val_main_v118 val_main_v117 val_main_v116 val_main_v114 val_main_v113 val_main_v21
  generalize val_main_v13 (F := Ideal) x0 x2 x3 = y
  pointwise [val_main_v135, val_main_v134, val_main_v132, val_main_v131, val_main_v126, val_main_v122, val_main_v115, val_main_cst_17, val_main_cst_18, val_main_cst_19, val_main_cst_20, val_main_cst_21]
  rfl

theorem v154_apply (c : Fin 128) (p : Fin 4) (d : Fin 64) (j : Fin 256) :
    val_main_v154 (F := Ideal) x0 x2 x3 (ix4 c p d j)
      = prow (fun k => x0 (ix2 ⟨c.val * 128 + j.val % 128, by omega⟩ k)) (fun k => x2 (ix1 k)) (fun k j => x3 (ix2 k j)) ⟨2688 + ((2 * p.val + j.val / 128) * 64 + d.val), by omega⟩ := by
  rw [← v13_apply]
  unfold val_main_v154 val_main_v153 val_main_v152 val_main_v151 val_main_v20
  generalize val_main_v13 (F := Ideal) x0 x2 x3 = y
  pointwise []
  exact congrArg _ (ix2_congr rfl (by dsimp only; omega))

theorem v157_apply (c : Fin 128) (p : Fin 4) (j : Fin 256) :
    val_main_v157 (F := Ideal) x0 x2 x3 (ix4 c p 0 j)
      = prow (fun k => x0 (ix2 ⟨c.val * 128 + j.val % 128, by omega⟩ k)) (fun k => x2 (ix1 k)) (fun k j => x3 (ix2 k j)) ⟨3264 + (2 * p.val + j.val / 128), by omega⟩ * Ideal.ofBits .f32 0x3D3504F3#32 := by
  rw [← v13_apply]
  unfold val_main_v157 val_main_v156 val_main_v155 val_main_v138 val_main_v22
  generalize val_main_v13 (F := Ideal) x0 x2 x3 = y
  pointwise [val_main_v137, val_main_cst_22]
  exact congrArg (· * _) (congrArg _ (ix2_congr rfl (by dsimp only; omega)))

theorem v161_apply (c : Fin 128) (p : Fin 4) (e : Fin 128) (j : Fin 256) :
    val_main_v161 (F := Ideal) x0 x2 x3 x7 (ix4 c p e j)
      = (∑ k : Fin 64, x7 (ix3 ⟨2 * p.val + j.val / 128, by omega⟩ k e)
          * prow (fun k => x0 (ix2 ⟨c.val * 128 + j.val % 128, by omega⟩ k)) (fun k => x2 (ix1 k)) (fun k j => x3 (ix2 k j)) ⟨2048 + ((2 * p.val + j.val / 128) * 64 + k.val), by omega⟩)
        * Ideal.ofBits .f32 0x3E000000#32 := by
  simp only [← v13_apply]
  unfold val_main_v161 val_main_v160 val_main_v159 val_main_v158 val_main_v112 val_main_v110 val_main_v109 val_main_v108 val_main_v18
  generalize val_main_v13 (F := Ideal) x0 x2 x3 = y
  pointwise [val_main_v111, val_main_cst_16]
  refine congrArg (· * _) (Finset.sum_congr rfl fun k _ => congrArg₂ (· * ·) (congrArg x7 (ix3_congr ?_ rfl rfl)) (congrArg _ (ix2_congr rfl ?_)))
  · dsimp only; omega
  · dsimp only; omega

end Cert.Proof.ProjRef

end
-- ==== Proof.ProjEq.lean ====
/-
  The equality claim of the input projection: from launches that agree on the arguments, each of the kernel's ten results and
  the reference's are the same array, entry by entry the same spec of the token's projected row.
-/
module

public import proofs.«01_k».proof.Defs
public import proofs.«01_k».proof.Proof.ProjRun
public import proofs.«01_k».proof.Proof.ProjOut
public import proofs.«01_k».proof.Proof.ProjRef

@[expose] public section

set_option maxRecDepth 16384

noncomputable section

open Idealize.ShloMosaic Idealize.ShloMosaic.TcCoe Idealize.SL.Sem

namespace Cert.Proof.ProjEq

open Cert.Kernel3Ideal Cert.Kernel3Ideal.Gen
open Cert.Proof.Proj Cert.Reference3Ideal.Read

variable (m : (ℓ : Loc nD τ sig) → Buf (Elt Ideal) ℓ) (ρ : Dev nD → PrngReg) (c : Dev nD)

/-! Each result array of the kernel is what the reference computes of the kernel's arguments. -/

section
variable {x0 : Vec Ideal S16384x1024 .f32} {x1 : Vec Ideal S8x2048 .i32} {x2 : Vec Ideal S1024 .f32} {x3 : Vec Ideal S1024x3272 .f32} {x4 : Vec Ideal S128 .f32} {x5 : Vec Ideal S64 .f32} {x6 : Vec Ideal S64 .f32} {x7 : Vec Ideal S8x64x128 .f32}
  (h0 : x0 = m ((c : Thread nD τ).loc main_arg0))
  (h1 : x1 = m ((c : Thread nD τ).loc main_arg1))
  (h2 : x2 = m ((c : Thread nD τ).loc main_arg2))
  (h3 : x3 = m ((c : Thread nD τ).loc main_arg3))
  (h4 : x4 = m ((c : Thread nD τ).loc main_arg4))
  (h5 : x5 = m ((c : Thread nD τ).loc main_arg5))
  (h6 : x6 = m ((c : Thread nD τ).loc main_arg6))
  (h7 : x7 = m ((c : Thread nD τ).loc main_arg7))

include h0 h1 h2 h3 in
theorem res0 : val_main_v140 (F := Ideal) x0 x1 x2 x3 = (dat1 (V3 m ρ) c).arrAt 11 cfg1.N := by
  subst h0 h1 h2 h3
  funext i
  have e : i = ix2 (i 0) (i 1) := (ix2_eta i).symm
  rw [e]
  exact (ProjRef.v140_apply _ _ _ _ (i 0) (i 1)).trans (kernel11 m ρ c (i 0) (i 1)).symm

include h0 h1 h2 h3 in
theorem res1 : val_main_v142 (F := Ideal) x0 x1 x2 x3 = (dat1 (V3 m ρ) c).arrAt 12 cfg1.N := by
  subst h0 h1 h2 h3
  funext i
  have e : i = ix2 (i 0) (i 1) := (ix2_eta i).symm
  rw [e]
  exact (ProjRef.v142_apply _ _ _ _ (i 0) (i 1)).trans (kernel12 m ρ c (i 0) (i 1)).symm

include h0 h2 h3 in
theorem res2 : val_main_v143 (F := Ideal) x0 x2 x3 = (dat1 (V3 m ρ) c).arrAt 13 cfg1.N := by
  subst h0 h2 h3
  funext i
  have e : i = ix2 (i 0) (i 1) := (ix2_eta i).symm
  rw [e]
  exact (ProjRef.v143_apply _ _ _ (i 0) (i 1)).trans (kernel13 m ρ c (i 0) (i 1)).symm

include h0 h2 h3 in
theorem res3 : val_main_v145 (F := Ideal) x0 x2 x3 = (dat1 (V3 m ρ) c).arrAt 14 cfg1.N := by
  subst h0 h2 h3
  funext i
  have e : i = ix2 (i 0) (i 1) := (ix2_eta i).symm
  rw [e]
  exact (ProjRef.v145_apply _ _ _ (i 0) (i 1)).trans (kernel14 m ρ c (i 0) (i 1)).symm

include h0 h2 h3 h4 in
theorem res4 : val_main_v146 (F := Ideal) x0 x2 x3 x4 = (dat1 (V3 m ρ) c).arrAt 15 cfg1.N := by
  subst h0 h2 h3 h4
  funext i
  have e : i = ix2 (i 0) (i 1) := (ix2_eta i).symm
  rw [e]
  exact (ProjRef.v146_apply _ _ _ _ (i 0) (i 1)).trans (kernel15 m ρ c (i 0) (i 1)).symm

include h0 h2 h3 h4 in
theorem res5 : val_main_v149 (F := Ideal) x0 x2 x3 x4 = (dat1 (V3 m ρ) c).arrAt 16 cfg1.N := by
  subst h0 h2 h3 h4
  funext i
  have e : i = ix3 (i 0) (i 1) (i 2) := (ix3_eta i).symm
  rw [e]
  exact (ProjRef.v149_apply _ _ _ _ (i 0) (i 1) (i 2)).trans (kernel16 m ρ c (i 0) (i 1) (i 2)).symm

include h0 h2 h3 h5 h6 in
theorem res6 : val_main_v150 (F := Ideal) x0 x2 x3 x5 x6 = (dat1 (V3 m ρ) c).arrAt 17 cfg1.N := by
  subst h0 h2 h3 h5 h6
  funext i
  have e : i = ix2 (i 0) (i 1) := (ix2_eta i).symm
  rw [e]
  exact (ProjRef.v150_apply _ _ _ _ _ (i 0) (i 1)).trans (kernel17 m ρ c (i 0) (i 1)).symm

include h0 h2 h3 in
theorem res7 : val_main_v154 (F := Ideal) x0 x2 x3 = (dat1 (V3 m ρ) c).arrAt 18 cfg1.N := by
  subst h0 h2 h3
  funext i
  have e : i = ix4 (i 0) (i 1) (i 2) (i 3) := (ix4_eta i).symm
  rw [e]
  exact (ProjRef.v154_apply _ _ _ (i 0) (i 1) (i 2) (i 3)).trans (kernel18 m ρ c (i 0) (i 1) (i 2) (i 3)).symm

include h0 h2 h3 in
theorem res8 : val_main_v157 (F := Ideal) x0 x2 x3 = (dat1 (V3 m ρ) c).arrAt 19 cfg1.N := by
  subst h0 h2 h3
  funext i
  have e : i = ix4 (i 0) (i 1) (0 : Fin 1) (i 3) :=
    (ix4_eta i).symm.trans (congrArg (fun z : Fin 1 => ix4 (i 0) (i 1) z (i 3)) (Subsingleton.elim (α := Fin 1) (i 2) 0))
  rw [e]
  exact (ProjRef.v157_apply _ _ _ (i 0) (i 1) (i 3)).trans (kernel19 m ρ c (i 0) (i 1) (i 3)).symm

include h0 h2 h3 h7 in
theorem res9 : val_main_v161 (F := Ideal) x0 x2 x3 x7 = (dat1 (V3 m ρ) c).arrAt 20 cfg1.N := by
  subst h0 h2 h3 h7
  funext i
  have e : i = ix4 (i 0) (i 1) (i 2) (i 3) := (ix4_eta i).symm
  rw [e]
  exact (ProjRef.v161_apply _ _ _ _ (i 0) (i 1) (i 2) (i 3)).trans (kernel20 m ρ c (i 0) (i 1) (i 2) (i 3)).symm

end

set_option maxHeartbeats 4000000 in
theorem algebraic : Cert.algebraic_Kernel3Ideal_Reference3Ideal := by
  intro m ρ m' ρ' _ hag
  refine ⟨fun c => (dat1 (V3 m ρ) c).arrAt 11 cfg1.N, fun c => (dat1 (V3 m ρ) c).arrAt 12 cfg1.N, fun c => (dat1 (V3 m ρ) c).arrAt 13 cfg1.N, fun c => (dat1 (V3 m ρ) c).arrAt 14 cfg1.N, fun c => (dat1 (V3 m ρ) c).arrAt 15 cfg1.N, fun c => (dat1 (V3 m ρ) c).arrAt 16 cfg1.N, fun c => (dat1 (V3 m ρ) c).arrAt 17 cfg1.N, fun c => (dat1 (V3 m ρ) c).arrAt 18 cfg1.N, fun c => (dat1 (V3 m ρ) c).arrAt 19 cfg1.N, fun c => (dat1 (V3 m ρ) c).arrAt 20 cfg1.N,
    Proj.run m ρ, ?_⟩
  refine (θ_run _ _ _).mono (fun _ h c => ?_) (Cert.Reference3Ideal.Value.run m' ρ')
  obtain ⟨h0, h1, h2, h3, h4, h5, h6, h7⟩ := hag c
  obtain ⟨r0, r1, r2, r3, r4, r5, r6, r7, r8, r9, rest⟩ := h c
  exact ⟨r0.trans ((val_main_v140_eq _).trans (res0 m ρ c h0 h1 h2 h3)),
    r1.trans ((val_main_v142_eq _).trans (res1 m ρ c h0 h1 h2 h3)),
    r2.trans ((val_main_v143_eq _).trans (res2 m ρ c h0 h2 h3)),
    r3.trans ((val_main_v145_eq _).trans (res3 m ρ c h0 h2 h3)),
    r4.trans ((val_main_v146_eq _).trans (res4 m ρ c h0 h2 h3 h4)),
    r5.trans ((val_main_v149_eq _).trans (res5 m ρ c h0 h2 h3 h4)),
    r6.trans ((val_main_v150_eq _).trans (res6 m ρ c h0 h2 h3 h5 h6)),
    r7.trans ((val_main_v154_eq _).trans (res7 m ρ c h0 h2 h3)),
    r8.trans ((val_main_v157_eq _).trans (res8 m ρ c h0 h2 h3)),
    r9.trans ((val_main_v161_eq _).trans (res9 m ρ c h0 h2 h3 h7)), rest⟩

end Cert.Proof.ProjEq

end
-- ==== Proof.DsaLoops.lean ====
module

public import proofs.«01_k».proof.Proof.Gen.Kernel4.Frame
public import proofs.«01_k».proof.Proof.Gen.Kernel4.Loops
public import Idealize.ShloMosaic.Lib.Pipeline.Frame
public import Idealize.ShloMosaic.Lib.Tactic

/-!
The sparse attention's two loops that hold loops of their own.  Both search bit by bit for the
key of the k-th largest score.  They only read, the first the scratch of rounded scores and the
second that of exact scores, so that the invariant of each is the scratch as it was; nothing is said
of the carried key.
-/

@[expose] public section

set_option maxRecDepth 8192
set_option maxHeartbeats 4000000

noncomputable section

namespace Cert.Dsa

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (𝒱 : Variants) (c : Dev nD) (bd : Option 𝒱.V) (E : Set ℕ) (i : grid0.Coords)
  (arg2 : Memref sig .tc .vmem S2048x64 .bf16) (harg2 : arg2.IsWhole)
  (arg3 : Memref sig .tc .vmem S2048x128 .bf16) (harg3 : arg3.IsWhole)
  (arg4 : Memref sig .tc .vmem S16x128x128 .bf16) (harg4 : arg4.IsWhole)
  (arg5 : Memref sig .tc .vmem S1x4x64x256 .bf16) (harg5 : arg5.IsWhole)
  (arg6 : Memref sig .tc .vmem S1x4x1x256 .f32) (harg6 : arg6.IsWhole)
  (arg7 : Memref sig .tc .vmem S1x4x128x256 .bf16) (harg7 : arg7.IsWhole)
  (arg8 : Memref sig .tc .vmem S8x64x128 .bf16) (harg8 : arg8.IsWhole)
  (arg9 : Memref sig .tc .vmem S128x512 .bf16) (harg9 : arg9.IsWhole)
  (arg10 : Memref sig .tc .vmem S2048x128 .f32) (harg10 : arg10.IsWhole)
  (arg11 : Memref sig .tc .vmem S2048x128 .bf16) (harg11 : arg11.IsWhole)
  (arg12 : Memref sig .tc .vmem S4x128x256 .f32) (harg12 : arg12.IsWhole)
  (arg13 : Memref sig .tc .vmem S4x256x256 .f32) (harg13 : arg13.IsWhole)
  (arg14 : Memref sig .tc .vmem S256x128 .f32) (harg14 : arg14.IsWhole)

/-- The rounded scores before trip `k` of the first search, as they were. -/
abbrev invCoarse (X : BufTy.Contents (Elt F) arg11.view.ty) (k : ℕ) (acc : IVec S1x128 32) : sProp 𝕄 :=
  iprop(arg11.view.loc (c : Thread nD τ) ↦[arg11.view.set]{fullShare} X)

set_option warn.classDefReducibility false in
/-- The first search: each trip runs its two counting loops over the rounded scores. -/
@[sl_loop] def loopCoarse (v17 : BitVec 32) (X : BufTy.Contents (Elt F) arg11.view.ty) (init : IVec S1x128 32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 v17 init where
  inv := invCoarse c arg11 X
  step k acc := by
    unfold k0_t3_body
    iintro H
    sl_exec
    sl_step
    iexact H

/-- The exact scores before trip `k` of the second search, as they were. -/
abbrev invFine (X : BufTy.Contents (Elt F) arg10.view.ty) (k : ℕ) (acc : IVec S1x128 32) : sProp 𝕄 :=
  iprop(arg10.view.loc (c : Thread nD τ) ↦[arg10.view.set]{fullShare} X)

set_option warn.classDefReducibility false in
/-- The second search: each trip runs its two counting loops over the exact scores. -/
@[sl_loop] def loopFine (v17 : BitVec 32) (v32 : IVec S1x128 32) (cst_15 : F .f32) (X : BufTy.Contents (Elt F) arg10.view.ty)
    (init : IVec S1x128 32) :
    LoopInvTy_k0_t6 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 v17 v32 cst_15 init where
  inv := invFine c arg10 X
  step k acc := by
    unfold k0_t6_body
    iintro H
    sl_exec
    sl_step
    iexact H

end Cert.Dsa

end
-- ==== Proof.DsaRun.lean ====
module

public import proofs.«01_k».proof.Proof.DsaLoops

/-!
The sparse attention's body, run once: from its eight staging buffers and five scratch buffers at
anything it comes to its end, the seven inputs as they were and the rest at something.
-/

@[expose] public section

set_option maxRecDepth 8192
set_option maxHeartbeats 4000000

noncomputable section

namespace Cert.Dsa

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable (c : Dev nD) (i : grid0.Coords)
  (arg2 : Memref sig .tc .vmem S2048x64 .bf16) (harg2 : arg2.IsWhole)
  (arg3 : Memref sig .tc .vmem S2048x128 .bf16) (harg3 : arg3.IsWhole)
  (arg4 : Memref sig .tc .vmem S16x128x128 .bf16) (harg4 : arg4.IsWhole)
  (arg5 : Memref sig .tc .vmem S1x4x64x256 .bf16) (harg5 : arg5.IsWhole)
  (arg6 : Memref sig .tc .vmem S1x4x1x256 .f32) (harg6 : arg6.IsWhole)
  (arg7 : Memref sig .tc .vmem S1x4x128x256 .bf16) (harg7 : arg7.IsWhole)
  (arg8 : Memref sig .tc .vmem S8x64x128 .bf16) (harg8 : arg8.IsWhole)
  (arg9 : Memref sig .tc .vmem S128x512 .bf16) (harg9 : arg9.IsWhole)
  (arg10 : Memref sig .tc .vmem S2048x128 .f32) (harg10 : arg10.IsWhole)
  (arg11 : Memref sig .tc .vmem S2048x128 .bf16) (harg11 : arg11.IsWhole)
  (arg12 : Memref sig .tc .vmem S4x128x256 .f32) (harg12 : arg12.IsWhole)
  (arg13 : Memref sig .tc .vmem S4x256x256 .f32) (harg13 : arg13.IsWhole)
  (arg14 : Memref sig .tc .vmem S256x128 .f32) (harg14 : arg14.IsWhole)
variable (X2 : S2048x64.Idx → Elt F .bf16)
    (X3 : S2048x128.Idx → Elt F .bf16)
    (X4 : S16x128x128.Idx → Elt F .bf16)
    (X5 : S1x4x64x256.Idx → Elt F .bf16)
    (X6 : S1x4x1x256.Idx → Elt F .f32)
    (X7 : S1x4x128x256.Idx → Elt F .bf16)
    (X8 : S8x64x128.Idx → Elt F .bf16)

/-- What the body is handed and gives back: the inputs at given contents, the result's buffer and the scratch at any. -/
def Held : sProp 𝕄 :=
  iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))

theorem run (K : PUnit → sProp 𝕄) :
    iprop(Held c arg2 arg3 arg4 arg5 arg6 arg7 arg8 arg9 arg10 arg11 arg12 arg13 arg14 X2 X3 X4 X5 X6 X7 X8
        ∗ (Held c arg2 arg3 arg4 arg5 arg6 arg7 arg8 arg9 arg10 arg11 arg12 arg13 arg14 X2 X3 X4 X5 X6 X7 X8 -∗ K ⟨⟩))
      ⊢ wp frame (wpE (defs₀ (F := F)) Variants.none c none) Set.univ (cc0_dsa i arg2 harg2 arg3 harg3 arg4 harg4 arg5 harg5 arg6 harg6 arg7 harg7 arg8 harg8 arg9 harg9 arg10 harg10 arg11 harg11 arg12 harg12 arg13 harg13 arg14 harg14) K := by
  simp only [cc0_dsa_eq_skeleton]; unfold cc0_dsa_skel Held owns
  iintro ⟨⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩, HK⟩
  sl_exec
  split
  all_goals
    sl_exec
    sl_step
    iapply HK
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.Dsa

end
-- ==== Proof.DsaFrame.lean ====
module

public import proofs.«01_k».proof.Proof.DsaRun

/-!
The frame of the sparse attention: the pipeline's proof data, which names what the inputs' buffers
hold and says nothing of the result, the body at each grid point, and the launch.
-/

@[expose] public section

set_option maxRecDepth 8192
set_option maxHeartbeats 4000000

noncomputable section

namespace Cert.Dsa

open Cert.Kernel4 Cert.Kernel4.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Nothing is said of what is left in the result's buffer. -/
def forgets : Fin 8 → Bool := fun w => decide (w = 7)

/-- The proof data: each input's buffer keeps its block, the result's is not described, and the
scratch is held between the points at any contents. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => Pipeline.Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

/-- What the body is called with at a grid point. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare d))

/-- What it gives back. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ (∃ d, owns (c : Thread nD τ) (win0_7.stage (cfg0.slots t 7)) fullShare d))

/-- The scratch between the points, buffer by buffer. -/
theorem scratch_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)) ∗ ∃ r, prngReg c r) := by
  unfold Pipeline.ΦA; rw [scopedRest0_eq]; simp only [owns_whole]; try rfl

/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq,
    after_0, after_1, after_2, after_3, after_4, after_5, after_6]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, H7⟩
  iapply (run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  unfold Held
  isplitl [H0 H1 H2 H3 H4 H5 H6 H7 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    iexact S4
  iintro ⟨H0, H1, H2, H3, H4, H5, H6, H7, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- Every run ends, each input's array as the region found it, each array outside the pipeline as
it was, and every counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every run ends, the seven arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      ((h.1 c).2 main_arg6 (Pipeline.mem_restRefs_of main_arg6 (by decide) (by decide))).trans (V_main_arg6 m c)⟩, h.2⟩)
    (run_main m ρ)

end Cert.Dsa

end
-- ==== Proof.lean ====
/-
  The proof of `Cert.Claim`: the frames of the three kernels, of their readings over the extended reals and of their references,
  and the equality of each kernel's and its reference's results (`Proof.RetEq`, `Proof.PostEq`, `Proof.ProjEq`).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.RetEq
public import proofs.«01_k».proof.Proof.PostEq
public import proofs.«01_k».proof.Proof.ProjEq
public import proofs.«01_k».proof.Proof.DsaFrame
public import Idealize.ShloMosaic.Lib.Quiescent
public import Idealize.ShloMosaic.Adequacy
public import Idealize.ShloMosaic.Init

@[expose] public section

noncomputable section

namespace Cert.Proof

open Idealize.ShloMosaic Idealize.SL.Sem

/-- The retention reference terminates with its arguments unchanged and every semaphore counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The reference of `post` terminates with its arguments unchanged and every semaphore counter at zero. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The reference of the input projection terminates with its arguments unchanged and every semaphore counter at zero. -/
theorem frame_reference3 : Cert.quiescent_Reference3Ideal := fun m ρ _ =>
  (θ_run Cert.Reference3Ideal.defs _ _).mono (fun r h => ⟨fun c => (h c).2.2.2.2.2.2.2.2.2.2, sem_eq_zero_of_no_sems (by decide) r.2⟩)
    (Cert.Reference3Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Dsa.frame m ρ,
    trivial, RetEq.algebraic, trivial, PostEq.algebraic, trivial, ProjEq.algebraic⟩

end Cert.Proof

end
